-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_states_and_keys [hPre_finite_states_and_keys : Cert.Pre_finite_states_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_states_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_states_and_keys [hPre_finite_states_and_keys : Cert.Pre_finite_states_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_states_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Fuse (m : (ℓ : Loc Cert.Fuse.nD Cert.Fuse.τ Cert.Fuse.sig) → Buf (Elt Bits) ℓ) : Prop :=
  True

def Pre_Rows [hPre_rows_in_range : Cert.Pre_rows_in_range.Facts] (m : (ℓ : Loc Cert.Rows.nD Cert.Rows.τ Cert.Rows.sig) → Buf (Elt Bits) ℓ) : Prop :=
  ∀ c : Dev Cert.Rows.nD,
    (Cert.Pre_rows_in_range.fn (F := Bits) (m ((c.tc : Thread Cert.Rows.nD Cert.Rows.τ).loc Cert.Rows.main_arg0)) (m ((c.tc : Thread Cert.Rows.nD Cert.Rows.τ).loc Cert.Rows.main_arg1))) = (fun _ => 1#1)

def Pre_RowsReference (m : (ℓ : Loc Cert.RowsReference.nD Cert.RowsReference.τ Cert.RowsReference.sig) → Buf (Elt Bits) ℓ) : Prop :=
  True

def Pre_RowsReference_rows_in_range [hPre_rows_in_range : Cert.Pre_rows_in_range.Facts] (m : (ℓ : Loc Cert.RowsReference.nD Cert.RowsReference.τ Cert.RowsReference.sig) → Buf (Elt Bits) ℓ) : Prop :=
  ∀ c : Dev Cert.RowsReference.nD,
    (Cert.Pre_rows_in_range.fn (F := Bits) (m ((c.tc : Thread Cert.RowsReference.nD Cert.RowsReference.τ).loc Cert.RowsReference.main_arg0)) (m ((c.tc : Thread Cert.RowsReference.nD Cert.RowsReference.τ).loc Cert.RowsReference.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_states_and_keys [hKernelIdeal : Cert.KernelIdeal.Facts] [hPre_finite_states_and_keys : Cert.Pre_finite_states_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_states_and_keys m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_states_and_keys [hReferenceIdeal : Cert.ReferenceIdeal.Facts] [hPre_finite_states_and_keys : Cert.Pre_finite_states_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_states_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Fuse [hFuse : Cert.Fuse.Facts] : Prop :=
  ∀ (m : (ℓ : Loc Cert.Fuse.nD Cert.Fuse.τ Cert.Fuse.sig) → Buf (Elt Bits) ℓ) (g : Dev Cert.Fuse.nD → PrngReg), Pre_Fuse m →
    θ_run (Cert.Fuse.defs (F := Bits)) (onTc (τ := Cert.Fuse.τ) (Cert.Fuse.main (F := Bits))) ⟨m, fun _ => 0, g⟩ (fun r => (∀ c : Dev Cert.Fuse.nD,
      r.2.mem ((c.tc : Thread Cert.Fuse.nD Cert.Fuse.τ).loc Cert.Fuse.main_arg0) = m ((c.tc : Thread Cert.Fuse.nD Cert.Fuse.τ).loc Cert.Fuse.main_arg0)
      ∧ r.2.mem ((c.tc : Thread Cert.Fuse.nD Cert.Fuse.τ).loc Cert.Fuse.main_arg1) = m ((c.tc : Thread Cert.Fuse.nD Cert.Fuse.τ).loc Cert.Fuse.main_arg1)
      ∧ r.2.mem ((c.tc : Thread Cert.Fuse.nD Cert.Fuse.τ).loc Cert.Fuse.main_arg2) = m ((c.tc : Thread Cert.Fuse.nD Cert.Fuse.τ).loc Cert.Fuse.main_arg2))
      ∧ r.2.sem = fun _ => 0)

def quiescent_Rows [hRows : Cert.Rows.Facts] [hPre_rows_in_range : Cert.Pre_rows_in_range.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (Cert.Rows.threads (F := Bits)) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsReference [hRowsReference : Cert.RowsReference.Facts] : Prop :=
  ∀ (m : (ℓ : Loc Cert.RowsReference.nD Cert.RowsReference.τ Cert.RowsReference.sig) → Buf (Elt Bits) ℓ) (g : Dev Cert.RowsReference.nD → PrngReg), Pre_RowsReference m →
    θ_run (Cert.RowsReference.defs (F := Bits)) (onTc (τ := Cert.RowsReference.τ) (Cert.RowsReference.main (F := Bits))) ⟨m, fun _ => 0, g⟩ (fun r => (∀ c : Dev Cert.RowsReference.nD,
      r.2.mem ((c.tc : Thread Cert.RowsReference.nD Cert.RowsReference.τ).loc Cert.RowsReference.main_arg0) = m ((c.tc : Thread Cert.RowsReference.nD Cert.RowsReference.τ).loc Cert.RowsReference.main_arg0)
      ∧ r.2.mem ((c.tc : Thread Cert.RowsReference.nD Cert.RowsReference.τ).loc Cert.RowsReference.main_arg1) = m ((c.tc : Thread Cert.RowsReference.nD Cert.RowsReference.τ).loc Cert.RowsReference.main_arg1))
      ∧ r.2.sem = fun _ => 0)

def quiescent_RowsReference_pre_rows_in_range [hRowsReference : Cert.RowsReference.Facts] [hPre_rows_in_range : Cert.Pre_rows_in_range.Facts] : Prop :=
  ∀ (m : (ℓ : Loc Cert.RowsReference.nD Cert.RowsReference.τ Cert.RowsReference.sig) → Buf (Elt Bits) ℓ) (g : Dev Cert.RowsReference.nD → PrngReg), Pre_RowsReference_rows_in_range m →
    θ_run (Cert.RowsReference.defs (F := Bits)) (onTc (τ := Cert.RowsReference.τ) (Cert.RowsReference.main (F := Bits))) ⟨m, fun _ => 0, g⟩ (fun r => (∀ c : Dev Cert.RowsReference.nD,
      r.2.mem ((c.tc : Thread Cert.RowsReference.nD Cert.RowsReference.τ).loc Cert.RowsReference.main_arg0) = m ((c.tc : Thread Cert.RowsReference.nD Cert.RowsReference.τ).loc Cert.RowsReference.main_arg0)
      ∧ r.2.mem ((c.tc : Thread Cert.RowsReference.nD Cert.RowsReference.τ).loc Cert.RowsReference.main_arg1) = m ((c.tc : Thread Cert.RowsReference.nD Cert.RowsReference.τ).loc Cert.RowsReference.main_arg1))
      ∧ r.2.sem = fun _ => 0)

def algebraic_KernelIdeal_ReferenceIdeal_pre_finite_states_and_keys [hKernelIdeal : Cert.KernelIdeal.Facts] [hReferenceIdeal : Cert.ReferenceIdeal.Facts] [hPre_finite_states_and_keys : Cert.Pre_finite_states_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_states_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Rows_RowsReference [hRows : Cert.Rows.Facts] [hRowsReference : Cert.RowsReference.Facts] [hPre_rows_in_range : Cert.Pre_rows_in_range.Facts] : Prop :=
  ∀ (m : (ℓ : Loc Cert.Rows.nD Cert.Rows.τ Cert.Rows.sig) → Buf (Elt Bits) ℓ) (g : Dev Cert.Rows.nD → PrngReg)
    (m' : (ℓ : Loc Cert.RowsReference.nD Cert.RowsReference.τ Cert.RowsReference.sig) → Buf (Elt Bits) ℓ) (g' : Dev Cert.RowsReference.nD → PrngReg), Pre_Rows m →
    (∀ c : Dev Cert.Rows.nD,
      m' ((c.tc : Thread Cert.RowsReference.nD Cert.RowsReference.τ).loc Cert.RowsReference.main_arg0) = m ((c.tc : Thread Cert.Rows.nD Cert.Rows.τ).loc Cert.Rows.main_arg0)
      ∧ m' ((c.tc : Thread Cert.RowsReference.nD Cert.RowsReference.τ).loc Cert.RowsReference.main_arg1) = m ((c.tc : Thread Cert.Rows.nD Cert.Rows.τ).loc Cert.Rows.main_arg1)) →
    ∃ (v0 : (c : Dev Cert.Rows.nD) → Buf (Elt Bits) ((c.tc : Thread Cert.Rows.nD Cert.Rows.τ).loc Cert.Rows.main_v0)),
      θ_run (Cert.Rows.defs (F := Bits)) (Cert.Rows.threads (F := Bits)) ⟨m, fun _ => 0, g⟩ (fun r => ∀ c : Dev Cert.Rows.nD,
          r.2.mem ((c.tc : Thread Cert.Rows.nD Cert.Rows.τ).loc Cert.Rows.main_v0) = v0 c
          ∧ r.2.mem ((c.tc : Thread Cert.Rows.nD Cert.Rows.τ).loc Cert.Rows.main_arg0) = m ((c.tc : Thread Cert.Rows.nD Cert.Rows.τ).loc Cert.Rows.main_arg0)
          ∧ r.2.mem ((c.tc : Thread Cert.Rows.nD Cert.Rows.τ).loc Cert.Rows.main_arg1) = m ((c.tc : Thread Cert.Rows.nD Cert.Rows.τ).loc Cert.Rows.main_arg1))
      ∧ θ_run (Cert.RowsReference.defs (F := Bits)) (onTc (τ := Cert.RowsReference.τ) (Cert.RowsReference.main (F := Bits))) ⟨m', fun _ => 0, g'⟩ (fun r => ∀ c : Dev Cert.RowsReference.nD,
          r.2.mem ((c.tc : Thread Cert.RowsReference.nD Cert.RowsReference.τ).loc Cert.RowsReference.main_v8) = v0 c
          ∧ r.2.mem ((c.tc : Thread Cert.RowsReference.nD Cert.RowsReference.τ).loc Cert.RowsReference.main_arg0) = m' ((c.tc : Thread Cert.RowsReference.nD Cert.RowsReference.τ).loc Cert.RowsReference.main_arg0)
          ∧ r.2.mem ((c.tc : Thread Cert.RowsReference.nD Cert.RowsReference.τ).loc Cert.RowsReference.main_arg1) = m' ((c.tc : Thread Cert.RowsReference.nD Cert.RowsReference.τ).loc Cert.RowsReference.main_arg1))

def Claim : Prop :=
  ∃ (hKernelIdeal : Cert.KernelIdeal.Facts) (hReferenceIdeal : Cert.ReferenceIdeal.Facts) (hFuse : Cert.Fuse.Facts) (hRows : Cert.Rows.Facts) (hRowsReference : Cert.RowsReference.Facts) (hPre_finite_states_and_keys : Cert.Pre_finite_states_and_keys.Facts) (hPre_rows_in_range : Cert.Pre_rows_in_range.Facts),
    quiescent_KernelIdeal (hKernelIdeal := hKernelIdeal)
    ∧ quiescent_KernelIdeal_pre_finite_states_and_keys (hKernelIdeal := hKernelIdeal) (hPre_finite_states_and_keys := hPre_finite_states_and_keys)
    ∧ quiescent_ReferenceIdeal (hReferenceIdeal := hReferenceIdeal)
    ∧ quiescent_ReferenceIdeal_pre_finite_states_and_keys (hReferenceIdeal := hReferenceIdeal) (hPre_finite_states_and_keys := hPre_finite_states_and_keys)
    ∧ quiescent_Fuse (hFuse := hFuse)
    ∧ quiescent_Rows (hRows := hRows) (hPre_rows_in_range := hPre_rows_in_range)
    ∧ quiescent_RowsReference (hRowsReference := hRowsReference)
    ∧ quiescent_RowsReference_pre_rows_in_range (hRowsReference := hRowsReference) (hPre_rows_in_range := hPre_rows_in_range)
    ∧ algebraic_KernelIdeal_ReferenceIdeal_pre_finite_states_and_keys (hKernelIdeal := hKernelIdeal) (hReferenceIdeal := hReferenceIdeal) (hPre_finite_states_and_keys := hPre_finite_states_and_keys)
    ∧ bitexact_Rows_RowsReference (hRows := hRows) (hRowsReference := hRowsReference) (hPre_rows_in_range := hPre_rows_in_range)
-- ==== Pre_finite_states_and_keys.lean ====
abbrev S8x512x768 : Shape := ⟨3, ![8, 512, 768]⟩
abbrev S65536x768 : Shape := ⟨2, ![65536, 768]⟩
abbrev S768x192 : Shape := ⟨2, ![768, 192]⟩
abbrev S192 : Shape := ⟨1, ![192]⟩
abbrev S192x1 : Shape := ⟨2, ![192, 1]⟩
abbrev S1 : Shape := ⟨1, ![1]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S65536x768 : S_.BroadcastsInDim S65536x768 (![] : Fin 0 → Fin S65536x768.rank)
  reducesTo_S65536x768_S_d0_1 : S65536x768.ReducesTo [0, 1] S_

variable [Facts]

def fn {F : FTy → Type} [FloatOps F] (main_arg0 : FVec F S8x512x768 .f32) (main_arg1 : FVec F S65536x768 .f32) (main_arg2 : FVec F S768x192 .f32) (main_arg3 : FVec F S192 .f32) (main_arg4 : FVec F S192x1 .f32) (main_arg5 : FVec F S1 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S65536x768 .f32 := Host.absf main_arg1
  let main_cst_0 : FVec F S_ .f32 := constant S_ .f32 0x7F800000#32
  let main_v5 : FVec F S65536x768 .f32 := broadcastInDim S65536x768 ![] bcast_S_S65536x768 main_cst_0
  let main_v6 : IVec S65536x768 1 := cmpf .olt main_v4 main_v5
  let main_c_1 : IVec S_ 1 := constantI S_ 1 1#1
  let main_v7 : IVec S_ 1 := (fun x v => Host.reduce IntOp.andi x v reducesTo_S65536x768_S_d0_1 h_S_) main_v6 main_c_1
  let main_v8 : IVec S_ 1 := andi main_v3 main_v7
  main_v8
-- ==== Pre_rows_in_range.lean ====
abbrev S1x128 : Shape := ⟨2, ![1, 128]⟩
abbrev S65536x768 : Shape := ⟨2, ![65536, 768]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel

variable [Facts]

def fn {F : FTy → Type} [FloatOps F] (main_arg0 : IVec S1x128 32) (main_arg1 : FVec F S65536x768 .f32) : IVec S_ 1 :=
  let main_c : IVec S_ 32 := constantI S_ 32 0#32
  let main_v0 : IVec S1x128 32 := broadcastInDim S1x128 ![] bcast_S_S1x128 main_c
  let main_v1 : IVec S1x128 1 := cmpi .sge main_arg0 main_v0
  let main_c_0 : IVec S_ 32 := constantI S_ 32 65536#32
  let main_v2 : IVec S1x128 32 := broadcastInDim S1x128 ![] bcast_S_S1x128 main_c_0
  let main_v3 : IVec S1x128 1 := cmpi .slt main_arg0 main_v2
  let main_v4 : IVec S1x128 1 := andi main_v1 main_v3
  let main_c_1 : IVec S_ 1 := constantI S_ 1 1#1
  let main_v5 : IVec S_ 1 := (fun x v => Host.reduce IntOp.andi x v reducesTo_S1x128_S_d0_1 h_S_) main_v4 main_c_1
  main_v5
-- ==== KernelIdeal.lean ====
abbrev S8x512x768 : Shape := ⟨3, ![8, 512, 768]⟩
abbrev S65536x768 : Shape := ⟨2, ![65536, 768]⟩
abbrev S768x192 : Shape := ⟨2, ![768, 192]⟩
abbrev S192 : Shape := ⟨1, ![192]⟩
abbrev S192x1 : Shape := ⟨2, ![192, 1]⟩
abbrev S1 : Shape := ⟨1, ![1]⟩
abbrev S1x192 : Shape := ⟨2, ![1, 192]⟩
abbrev S1x1 : Shape := ⟨2, ![1, 1]⟩
abbrev S8x128 : Shape := ⟨2, ![8, 128]⟩
abbrev S1x128 : Shape := ⟨2, ![1, 128]⟩
abbrev S4096x768 : Shape := ⟨2, ![4096, 768]⟩
abbrev S8x768 : Shape := ⟨2, ![8, 768]⟩
abbrev S8x4096 : Shape := ⟨2, ![8, 4096]⟩
abbrev S8x192 : Shape := ⟨2, ![8, 192]⟩
abbrev S8 : Shape := ⟨1, ![8]⟩
abbrev S8x1 : Shape := ⟨2, ![8, 1]⟩
abbrev S1x8 : Shape := ⟨2, ![1, 8]⟩
abbrev S1x120 : Shape := ⟨2, ![1, 120]⟩
abbrev S_ : Shape := ⟨0, ![]⟩
abbrev S1x768 : Shape := ⟨2, ![1, 768]⟩
abbrev S8x8x512x768 : Shape := ⟨4, ![8, 8, 512, 768]⟩
abbrev S1x512x768 : Shape := ⟨3, ![1, 512, 768]⟩
abbrev S8x1x512x768 : Shape := ⟨4, ![8, 1, 512, 768]⟩
abbrev S512x768 : Shape := ⟨2, ![512, 768]⟩
abbrev S1x1x512x768 : Shape := ⟨4, ![1, 1, 512, 768]⟩

abbrev nBuf : Table → Nat
  | .hbm => 13
  | .local .tc .vmem => 18
  | .local .scScalar .smem => 1
  | _ => 0

abbrev bufTy : (tb : Table) → Fin (nBuf tb) → BufTy
  | .hbm, ⟨0, _⟩ => ⟨S8x512x768, .f32⟩
  | .hbm, ⟨1, _⟩ => ⟨S65536x768, .f32⟩
  | .hbm, ⟨2, _⟩ => ⟨S768x192, .f32⟩
  | .hbm, ⟨3, _⟩ => ⟨S192, .f32⟩
  | .hbm, ⟨4, _⟩ => ⟨S192x1, .f32⟩
  | .hbm, ⟨5, _⟩ => ⟨S1, .f32⟩
  | .hbm, ⟨6, _⟩ => ⟨S1x192, .f32⟩
  | .hbm, ⟨7, _⟩ => ⟨S1x192, .f32⟩
  | .hbm, ⟨8, _⟩ => ⟨S1x1, .f32⟩
  | .hbm, ⟨9, _⟩ => ⟨S8x128, .f32⟩
  | .hbm, ⟨10, _⟩ => ⟨S1x128, .i32⟩
  | .hbm, ⟨11, _⟩ => ⟨S8x768, .f32⟩
  | .hbm, ⟨12, _⟩ => ⟨S8x8x512x768, .f32⟩
  | .local .tc .vmem, ⟨0, _⟩ => ⟨S8x512x768, .f32⟩
  | .local .tc .vmem, ⟨1, _⟩ => ⟨S768x192, .f32⟩
  | .local .tc .vmem, ⟨2, _⟩ => ⟨S1x192, .f32⟩
  | .local .tc .vmem, ⟨3, _⟩ => ⟨S1x192, .f32⟩
  | .local .tc .vmem, ⟨4, _⟩ => ⟨S1x1, .f32⟩
  | .local .tc .vmem, ⟨5, _⟩ => ⟨S4096x768, .f32⟩
  | .local .tc .vmem, ⟨6, _⟩ => ⟨S4096x768, .f32⟩
  | .local .tc .vmem, ⟨7, _⟩ => ⟨S8x128, .f32⟩
  | .local .tc .vmem, ⟨8, _⟩ => ⟨S1x128, .i32⟩
  | .local .tc .vmem, ⟨9, _⟩ => ⟨S8x768, .f32⟩
  | .local .tc .vmem, ⟨10, _⟩ => ⟨S8x4096, .f32⟩
  | .local .tc .vmem, ⟨11, _⟩ => ⟨S8x4096, .i32⟩
  | .local .tc .vmem, ⟨12, _⟩ => ⟨S8x128, .f32⟩
  | .local .tc .vmem, ⟨13, _⟩ => ⟨S1x512x768, .f32⟩
  | .local .tc .vmem, ⟨14, _⟩ => ⟨S1x512x768, .f32⟩
  | .local .tc .vmem, ⟨15, _⟩ => ⟨S8x768, .f32⟩
  | .local .tc .vmem, ⟨16, _⟩ => ⟨S8x1x512x768, .f32⟩
  | .local .tc .vmem, ⟨17, _⟩ => ⟨S8x1x512x768, .f32⟩
  | .local .scScalar .smem, ⟨0, _⟩ => ⟨S1x128, .i32⟩
  | _, _ => ⟨S8x512x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v3_1_scs : Ref sig .scScalar := ⟨.hbm, 10, rfl⟩
abbrev main_arg1_scs : Ref sig .scScalar := ⟨.hbm, 1, rfl⟩
abbrev main_v4_scs : Ref sig .scScalar := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc1_scratch0 : Ref sig .scScalar := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc2_sem0_0 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c15_i32 : BitVec 32 := 15#32
  let v16 : BitVec 1 := Scalar.cmpi .eq arg0 c15_i32
  let v17 : BitVec 32 := Scalar.extui v16
  let c0_i32_10 : BitVec 32 := 0#32
  let v18 : BitVec 1 := Scalar.cmpi .ne v17 c0_i32_10
  v18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![1], ![false]⟩

def k1_off1 (v2 : BitVec 32) : Fin 2 → Nat :=
  let c0_i32_3 : BitVec 32 := 0#32
  ![v2.toNat, 0]

def k1_off2 (v7 : BitVec 32) : Fin 2 → Nat :=
  let c0_i32_7 : BitVec 32 := 0#32
  ![v7.toNat, 0]

def k1_off3 (v12 : BitVec 32) : Fin 2 → Nat :=
  let c0_i32_11 : BitVec 32 := 0#32
  ![v12.toNat, 0]

def k1_off4 (v17 : BitVec 32) : Fin 2 → Nat :=
  let c0_i32_15 : BitVec 32 := 0#32
  ![v17.toNat, 0]

def k1_off5 (v22 : BitVec 32) : Fin 2 → Nat :=
  let c0_i32_19 : BitVec 32 := 0#32
  ![v22.toNat, 0]

def k1_off6 (v27 : BitVec 32) : Fin 2 → Nat :=
  let c0_i32_23 : BitVec 32 := 0#32
  ![v27.toNat, 0]

def k1_off7 (v32 : BitVec 32) : Fin 2 → Nat :=
  let c0_i32_27 : BitVec 32 := 0#32
  ![v32.toNat, 0]

def k1_off8 (v37 : BitVec 32) : Fin 2 → Nat :=
  let c0_i32_31 : BitVec 32 := 0#32
  ![v37.toNat, 0]

def k1_chk8 (v37 : BitVec 32) : Prop :=
  (∀ a, (k1_off8 v37) a + S1x768.size a ≤ S65536x768.size a)
theorem k1_off8_inb : ∀ (v37 : BitVec 32) (k1_hw8 : k1_chk8 v37), ∀ a, (k1_off8 v37) a + S1x768.size a ≤ S65536x768.size a := fun v37 k1_hw8 => k1_hw8

def k1_off9 (v2 : BitVec 32) : Fin 2 → Nat :=
  let c0_i32_34 : BitVec 32 := 0#32
  ![v2.toNat, 0]

def k1_chk1 (v2 : BitVec 32) : Prop :=
  (∀ a, (k1_off1 v2) a + S1x768.size a ≤ S65536x768.size a) ∧
  (∀ a, (k1_off9 v2) a + S1x768.size a ≤ S65536x768.size a)
theorem k1_off1_inb : ∀ (v2 : BitVec 32) (k1_hw1 : k1_chk1 v2), ∀ a, (k1_off1 v2) a + S1x768.size a ≤ S65536x768.size a := fun v2 k1_hw1 => k1_hw1.1
theorem k1_off9_inb : ∀ (v2 : BitVec 32) (k1_hw1 : k1_chk1 v2), ∀ a, (k1_off9 v2) a + S1x768.size a ≤ S65536x768.size a := fun v2 k1_hw1 => k1_hw1.2

def k1_off10 (v7 : BitVec 32) : Fin 2 → Nat :=
  let c0_i32_37 : BitVec 32 := 0#32
  ![v7.toNat, 0]

def k1_chk2 (v7 : BitVec 32) : Prop :=
  (∀ a, (k1_off2 v7) a + S1x768.size a ≤ S65536x768.size a) ∧
  (∀ a, (k1_off10 v7) a + S1x768.size a ≤ S65536x768.size a)
theorem k1_off2_inb : ∀ (v7 : BitVec 32) (k1_hw2 : k1_chk2 v7), ∀ a, (k1_off2 v7) a + S1x768.size a ≤ S65536x768.size a := fun v7 k1_hw2 => k1_hw2.1
theorem k1_off10_inb : ∀ (v7 : BitVec 32) (k1_hw2 : k1_chk2 v7), ∀ a, (k1_off10 v7) a + S1x768.size a ≤ S65536x768.size a := fun v7 k1_hw2 => k1_hw2.2

def k1_off11 (v12 : BitVec 32) : Fin 2 → Nat :=
  let c0_i32_40 : BitVec 32 := 0#32
  ![v12.toNat, 0]

def k1_chk3 (v12 : BitVec 32) : Prop :=
  (∀ a, (k1_off3 v12) a + S1x768.size a ≤ S65536x768.size a) ∧
  (∀ a, (k1_off11 v12) a + S1x768.size a ≤ S65536x768.size a)
theorem k1_off3_inb : ∀ (v12 : BitVec 32) (k1_hw3 : k1_chk3 v12), ∀ a, (k1_off3 v12) a + S1x768.size a ≤ S65536x768.size a := fun v12 k1_hw3 => k1_hw3.1
theorem k1_off11_inb : ∀ (v12 : BitVec 32) (k1_hw3 : k1_chk3 v12), ∀ a, (k1_off11 v12) a + S1x768.size a ≤ S65536x768.size a := fun v12 k1_hw3 => k1_hw3.2

def k1_off12 (v17 : BitVec 32) : Fin 2 → Nat :=
  let c0_i32_43 : BitVec 32 := 0#32
  ![v17.toNat, 0]

def k1_chk4 (v17 : BitVec 32) : Prop :=
  (∀ a, (k1_off4 v17) a + S1x768.size a ≤ S65536x768.size a) ∧
  (∀ a, (k1_off12 v17) a + S1x768.size a ≤ S65536x768.size a)
theorem k1_off4_inb : ∀ (v17 : BitVec 32) (k1_hw4 : k1_chk4 v17), ∀ a, (k1_off4 v17) a + S1x768.size a ≤ S65536x768.size a := fun v17 k1_hw4 => k1_hw4.1
theorem k1_off12_inb : ∀ (v17 : BitVec 32) (k1_hw4 : k1_chk4 v17), ∀ a, (k1_off12 v17) a + S1x768.size a ≤ S65536x768.size a := fun v17 k1_hw4 => k1_hw4.2

def k1_off13 (v22 : BitVec 32) : Fin 2 → Nat :=
  let c0_i32_46 : BitVec 32 := 0#32
  ![v22.toNat, 0]

def k1_chk5 (v22 : BitVec 32) : Prop :=
  (∀ a, (k1_off5 v22) a + S1x768.size a ≤ S65536x768.size a) ∧
  (∀ a, (k1_off13 v22) a + S1x768.size a ≤ S65536x768.size a)
theorem k1_off5_inb : ∀ (v22 : BitVec 32) (k1_hw5 : k1_chk5 v22), ∀ a, (k1_off5 v22) a + S1x768.size a ≤ S65536x768.size a := fun v22 k1_hw5 => k1_hw5.1
theorem k1_off13_inb : ∀ (v22 : BitVec 32) (k1_hw5 : k1_chk5 v22), ∀ a, (k1_off13 v22) a + S1x768.size a ≤ S65536x768.size a := fun v22 k1_hw5 => k1_hw5.2

def k1_off14 (v27 : BitVec 32) : Fin 2 → Nat :=
  let c0_i32_49 : BitVec 32 := 0#32
  ![v27.toNat, 0]

def k1_chk6 (v27 : BitVec 32) : Prop :=
  (∀ a, (k1_off6 v27) a + S1x768.size a ≤ S65536x768.size a) ∧
  (∀ a, (k1_off14 v27) a + S1x768.size a ≤ S65536x768.size a)
theorem k1_off6_inb : ∀ (v27 : BitVec 32) (k1_hw6 : k1_chk6 v27), ∀ a, (k1_off6 v27) a + S1x768.size a ≤ S65536x768.size a := fun v27 k1_hw6 => k1_hw6.1
theorem k1_off14_inb : ∀ (v27 : BitVec 32) (k1_hw6 : k1_chk6 v27), ∀ a, (k1_off14 v27) a + S1x768.size a ≤ S65536x768.size a := fun v27 k1_hw6 => k1_hw6.2

def k1_off15 (v32 : BitVec 32) : Fin 2 → Nat :=
  let c0_i32_52 : BitVec 32 := 0#32
  ![v32.toNat, 0]

def k1_chk7 (v32 : BitVec 32) : Prop :=
  (∀ a, (k1_off7 v32) a + S1x768.size a ≤ S65536x768.size a) ∧
  (∀ a, (k1_off15 v32) a + S1x768.size a ≤ S65536x768.size a)
theorem k1_off7_inb : ∀ (v32 : BitVec 32) (k1_hw7 : k1_chk7 v32), ∀ a, (k1_off7 v32) a + S1x768.size a ≤ S65536x768.size a := fun v32 k1_hw7 => k1_hw7.1
theorem k1_off15_inb : ∀ (v32 : BitVec 32) (k1_hw7 : k1_chk7 v32), ∀ a, (k1_off15 v32) a + S1x768.size a ≤ S65536x768.size a := fun v32 k1_hw7 => k1_hw7.2

abbrev grid2 : Pipeline.Grid := ⟨1, ![8], ![false]⟩

def k2_off1 (i : grid2.Coords) : Fin 2 → Nat :=
  let arg0 : BitVec 32 := BitVec.ofNat 32 (i 0).val
  let c1_i32 : BitVec 32 := 1#32
  let v4 : BitVec 32 := Scalar.muli arg0 c1_i32
  let c0_i32 : BitVec 32 := 0#32
  let v5 : BitVec 32 := Scalar.addi v4 c0_i32
  let v6 : Index := Scalar.indexCast v5
  let c0_4 : Index := 0#32
  ![v6.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 1 → Memref sig .tc .vmem S8x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x512x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x1x512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S8x512x768 : Shape := ⟨3, ![8, 512, 768]⟩
abbrev S65536x768 : Shape := ⟨2, ![65536, 768]⟩
abbrev S768x192 : Shape := ⟨2, ![768, 192]⟩
abbrev S192 : Shape := ⟨1, ![192]⟩
abbrev S192x1 : Shape := ⟨2, ![192, 1]⟩
abbrev S1 : Shape := ⟨1, ![1]⟩
abbrev S_ : Shape := ⟨0, ![]⟩
abbrev S8x768 : Shape := ⟨2, ![8, 768]⟩
abbrev S8 : Shape := ⟨1, ![8]⟩
abbrev S8x1 : Shape := ⟨2, ![8, 1]⟩
abbrev S65536 : Shape := ⟨1, ![65536]⟩
abbrev S1x65536 : Shape := ⟨2, ![1, 65536]⟩
abbrev S768x65536 : Shape := ⟨2, ![768, 65536]⟩
abbrev S8x65536 : Shape := ⟨2, ![8, 65536]⟩
abbrev S8x10 : Shape := ⟨2, ![8, 10]⟩
abbrev S1x1 : Shape := ⟨2, ![1, 1]⟩
abbrev S8x192 : Shape := ⟨2, ![8, 192]⟩
abbrev S1x192 : Shape := ⟨2, ![1, 192]⟩
abbrev S8x1x768 : Shape := ⟨3, ![8, 1, 768]⟩
abbrev S8x1x1x1 : Shape := ⟨4, ![8, 1, 1, 1]⟩
abbrev S1x8x512x768 : Shape := ⟨4, ![1, 8, 512, 768]⟩
abbrev S8x8x512x768 : Shape := ⟨4, ![8, 8, 512, 768]⟩

abbrev nBuf : Space → Nat
  | .hbm => 90
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S65536x768, .f32⟩
  | .hbm, ⟨2, _⟩ => ⟨S768x192, .f32⟩
  | .hbm, ⟨3, _⟩ => ⟨S192, .f32⟩
  | .hbm, ⟨4, _⟩ => ⟨S192x1, .f32⟩
  | .hbm, ⟨5, _⟩ => ⟨S1, .f32⟩
  | .hbm, ⟨6, _⟩ => ⟨S_, .f32⟩
  | .hbm, ⟨7, _⟩ => ⟨S8x768, .f32⟩
  | .hbm, ⟨8, _⟩ => ⟨S_, .f32⟩
  | .hbm, ⟨9, _⟩ => ⟨S8x768, .f32⟩
  | .hbm, ⟨10, _⟩ => ⟨S8x768, .f32⟩
  | .hbm, ⟨11, _⟩ => ⟨S8x768, .f32⟩
  | .hbm, ⟨12, _⟩ => ⟨S_, .f32⟩
  | .hbm, ⟨13, _⟩ => ⟨S8, .f32⟩
  | .hbm, ⟨14, _⟩ => ⟨S8x1, .f32⟩
  | .hbm, ⟨15, _⟩ => ⟨S65536x768, .f32⟩
  | .hbm, ⟨16, _⟩ => ⟨S_, .f32⟩
  | .hbm, ⟨17, _⟩ => ⟨S65536, .f32⟩
  | .hbm, ⟨18, _⟩ => ⟨S1x65536, .f32⟩
  | .hbm, ⟨19, _⟩ => ⟨S768x65536, .f32⟩
  | .hbm, ⟨20, _⟩ => ⟨S8x65536, .f32⟩
  | .hbm, ⟨21, _⟩ => ⟨S_, .f32⟩
  | .hbm, ⟨22, _⟩ => ⟨S8x65536, .f32⟩
  | .hbm, ⟨23, _⟩ => ⟨S8x65536, .f32⟩
  | .hbm, ⟨24, _⟩ => ⟨S8x65536, .f32⟩
  | .hbm, ⟨25, _⟩ => ⟨S8x65536, .f32⟩
  | .hbm, ⟨26, _⟩ => ⟨S8x65536, .f32⟩
  | .hbm, ⟨27, _⟩ => ⟨S8x65536, .f32⟩
  | .hbm, ⟨28, _⟩ => ⟨S8x65536, .f32⟩
  | .hbm, ⟨29, _⟩ => ⟨S8x10, .f32⟩
  | .hbm, ⟨30, _⟩ => ⟨S8x10, .i32⟩
  | .hbm, ⟨31, _⟩ => ⟨S8x1, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i1⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S8, .i32⟩
  | .hbm, ⟨40, _⟩ => ⟨S8x1, .i32⟩
  | .hbm, ⟨41, _⟩ => ⟨S1, .i32⟩
  | .hbm, ⟨42, _⟩ => ⟨S_, .i32⟩
  | .hbm, ⟨43, _⟩ => ⟨S8x1, .i32⟩
  | .hbm, ⟨44, _⟩ => ⟨S8x1, .i1⟩
  | .hbm, ⟨45, _⟩ => ⟨S1x1, .i32⟩
  | .hbm, ⟨46, _⟩ => ⟨S8x1, .i32⟩
  | .hbm, ⟨47, _⟩ => ⟨S8x1, .i1⟩
  | .hbm, ⟨48, _⟩ => ⟨S8x1, .i1⟩
  | .hbm, ⟨49, _⟩ => ⟨S_, .i1⟩
  | .hbm, ⟨50, _⟩ => ⟨S8, .i1⟩
  | .hbm, ⟨51, _⟩ => ⟨S8x768, .f32⟩
  | .hbm, ⟨52, _⟩ => ⟨S8x768, .i1⟩
  | .hbm, ⟨53, _⟩ => ⟨S_, .f32⟩
  | .hbm, ⟨54, _⟩ => ⟨S8x768, .f32⟩
  | .hbm, ⟨55, _⟩ => ⟨S8x768, .f32⟩
  | .hbm, ⟨56, _⟩ => ⟨S8x192, .f32⟩
  | .hbm, ⟨57, _⟩ => ⟨S1x192, .f32⟩
  | .hbm, ⟨58, _⟩ => ⟨S8x192, .f32⟩
  | .hbm, ⟨59, _⟩ => ⟨S8x192, .f32⟩
  | .hbm, ⟨60, _⟩ => ⟨S_, .f32⟩
  | .hbm, ⟨61, _⟩ => ⟨S8x192, .f32⟩
  | .hbm, ⟨62, _⟩ => ⟨S8x192, .f32⟩
  | .hbm, ⟨63, _⟩ => ⟨S8x1, .f32⟩
  | .hbm, ⟨64, _⟩ => ⟨S1x1, .f32⟩
  | .hbm, ⟨65, _⟩ => ⟨S8x1, .f32⟩
  | .hbm, ⟨66, _⟩ => ⟨S8x1, .f32⟩
  | .hbm, ⟨67, _⟩ => ⟨S8x1, .f32⟩
  | .hbm, ⟨68, _⟩ => ⟨S8x1, .f32⟩
  | .hbm, ⟨69, _⟩ => ⟨S_, .f32⟩
  | .hbm, ⟨70, _⟩ => ⟨S8x1, .f32⟩
  | .hbm, ⟨71, _⟩ => ⟨S8x1, .f32⟩
  | .hbm, ⟨72, _⟩ => ⟨S_, .f32⟩
  | .hbm, ⟨73, _⟩ => ⟨S8x1, .f32⟩
  | .hbm, ⟨74, _⟩ => ⟨S8x1, .f32⟩
  | .hbm, ⟨75, _⟩ => ⟨S8x1x768, .f32⟩
  | .hbm, ⟨76, _⟩ => ⟨S8x512x768, .f32⟩
  | .hbm, ⟨77, _⟩ => ⟨S8x1x1x1, .f32⟩
  | .hbm, ⟨78, _⟩ => ⟨S_, .f32⟩
  | .hbm, ⟨79, _⟩ => ⟨S8x1x1x1, .f32⟩
  | .hbm, ⟨80, _⟩ => ⟨S8x1x1x1, .f32⟩
  | .hbm, ⟨81, _⟩ => ⟨S1x8x512x768, .f32⟩
  | .hbm, ⟨82, _⟩ => ⟨S8x8x512x768, .f32⟩
  | .hbm, ⟨83, _⟩ => ⟨S8x8x512x768, .f32⟩
  | .hbm, ⟨84, _⟩ => ⟨S8x8x512x768, .f32⟩
  | .hbm, ⟨85, _⟩ => ⟨S1x8x512x768, .f32⟩
  | .hbm, ⟨86, _⟩ => ⟨S8x8x512x768, .f32⟩
  | .hbm, ⟨87, _⟩ => ⟨S8x8x512x768, .f32⟩
  | .hbm, ⟨88, _⟩ => ⟨S8x8x512x768, .f32⟩
  | .hbm, ⟨89, _⟩ => ⟨S8x8x512x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_values : Ref sig .tc := ⟨.hbm, 29, rfl⟩
abbrev main_indices : Ref sig .tc := ⟨.hbm, 30, rfl⟩
abbrev main_v18 : Ref sig .tc := ⟨.hbm, 31, rfl⟩
abbrev main_v19 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call1_cst : Ref sig .tc := ⟨.hbm, 60, rfl⟩
abbrev main_call1_v0 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_cst_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]
-- ==== Fuse.lean ====
abbrev S8x128 : Shape := ⟨2, ![8, 128]⟩
abbrev S8x512x768 : Shape := ⟨3, ![8, 512, 768]⟩
abbrev S8x768 : Shape := ⟨2, ![8, 768]⟩
abbrev S8x8x512x768 : Shape := ⟨4, ![8, 8, 512, 768]⟩
abbrev S1x512x768 : Shape := ⟨3, ![1, 512, 768]⟩
abbrev S8x1x512x768 : Shape := ⟨4, ![8, 1, 512, 768]⟩
abbrev S8x1 : Shape := ⟨2, ![8, 1]⟩
abbrev S512x768 : Shape := ⟨2, ![512, 768]⟩
abbrev S1x768 : Shape := ⟨2, ![1, 768]⟩
abbrev S1x1 : Shape := ⟨2, ![1, 1]⟩
abbrev S1x1x512x768 : Shape := ⟨4, ![1, 1, 512, 768]⟩

abbrev nBuf : Space → Nat
  | .hbm => 4
  | .vmem => 6
  | .smem => 0
  | _ => 0

abbrev bufTy : (tb : Table) → Fin (tcTables nBuf tb) → BufTy
  | .hbm, ⟨0, _⟩ => ⟨S8x128, .f32⟩
  | .hbm, ⟨1, _⟩ => ⟨S8x512x768, .f32⟩
  | .hbm, ⟨2, _⟩ => ⟨S8x768, .f32⟩
  | .hbm, ⟨3, _⟩ => ⟨S8x8x512x768, .f32⟩
  | .local _ .vmem, ⟨0, _⟩ => ⟨S8x128, .f32⟩
  | .local _ .vmem, ⟨1, _⟩ => ⟨S1x512x768, .f32⟩
  | .local _ .vmem, ⟨2, _⟩ => ⟨S1x512x768, .f32⟩
  | .local _ .vmem, ⟨3, _⟩ => ⟨S8x768, .f32⟩
  | .local _ .vmem, ⟨4, _⟩ => ⟨S8x1x512x768, .f32⟩
  | .local _ .vmem, ⟨5, _⟩ => ⟨S8x1x512x768, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c1_i32 : BitVec 32 := 1#32
  let v3 : BitVec 32 := Scalar.muli arg0 c1_i32
  let c0_i32 : BitVec 32 := 0#32
  let v4 : BitVec 32 := Scalar.addi v3 c0_i32
  let v5 : Index := Scalar.indexCast v4
  let c0_4 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Rows.lean ====
abbrev S1x128 : Shape := ⟨2, ![1, 128]⟩
abbrev S65536x768 : Shape := ⟨2, ![65536, 768]⟩
abbrev S8x768 : Shape := ⟨2, ![8, 768]⟩
abbrev S_ : Shape := ⟨0, ![]⟩
abbrev S1x1 : Shape := ⟨2, ![1, 1]⟩
abbrev S1x768 : Shape := ⟨2, ![1, 768]⟩

abbrev nBuf : Table → Nat
  | .hbm => 3
  | .local .scScalar .smem => 1
  | _ => 0

abbrev bufTy : (tb : Table) → Fin (nBuf tb) → BufTy
  | .hbm, ⟨0, _⟩ => ⟨S1x128, .i32⟩
  | .hbm, ⟨1, _⟩ => ⟨S65536x768, .f32⟩
  | .hbm, ⟨2, _⟩ => ⟨S8x768, .f32⟩
  | .local .scScalar .smem, ⟨0, _⟩ => ⟨S1x128, .i32⟩
  | _, _ => ⟨S1x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v2 : BitVec 32) : Fin 2 → Nat :=
  let c0_i32_3 : BitVec 32 := 0#32
  ![v2.toNat, 0]

def k0_off2 (v7 : BitVec 32) : Fin 2 → Nat :=
  let c0_i32_7 : BitVec 32 := 0#32
  ![v7.toNat, 0]

def k0_off3 (v12 : BitVec 32) : Fin 2 → Nat :=
  let c0_i32_11 : BitVec 32 := 0#32
  ![v12.toNat, 0]

def k0_off4 (v17 : BitVec 32) : Fin 2 → Nat :=
  let c0_i32_15 : BitVec 32 := 0#32
  ![v17.toNat, 0]

def k0_off5 (v22 : BitVec 32) : Fin 2 → Nat :=
  let c0_i32_19 : BitVec 32 := 0#32
  ![v22.toNat, 0]

def k0_off6 (v27 : BitVec 32) : Fin 2 → Nat :=
  let c0_i32_23 : BitVec 32 := 0#32
  ![v27.toNat, 0]

def k0_off7 (v32 : BitVec 32) : Fin 2 → Nat :=
  let c0_i32_27 : BitVec 32 := 0#32
  ![v32.toNat, 0]

def k0_off8 (v37 : BitVec 32) : Fin 2 → Nat :=
  let c0_i32_31 : BitVec 32 := 0#32
  ![v37.toNat, 0]

def k0_chk8 (v37 : BitVec 32) : Prop :=
  (∀ a, (k0_off8 v37) a + S1x768.size a ≤ S65536x768.size a)
theorem k0_off8_inb : ∀ (v37 : BitVec 32) (k0_hw8 : k0_chk8 v37), ∀ a, (k0_off8 v37) a + S1x768.size a ≤ S65536x768.size a := fun v37 k0_hw8 => k0_hw8

def k0_off9 (v2 : BitVec 32) : Fin 2 → Nat :=
  let c0_i32_34 : BitVec 32 := 0#32
  ![v2.toNat, 0]

def k0_chk1 (v2 : BitVec 32) : Prop :=
  (∀ a, (k0_off1 v2) a + S1x768.size a ≤ S65536x768.size a) ∧
  (∀ a, (k0_off9 v2) a + S1x768.size a ≤ S65536x768.size a)
theorem k0_off1_inb : ∀ (v2 : BitVec 32) (k0_hw1 : k0_chk1 v2), ∀ a, (k0_off1 v2) a + S1x768.size a ≤ S65536x768.size a := fun v2 k0_hw1 => k0_hw1.1
theorem k0_off9_inb : ∀ (v2 : BitVec 32) (k0_hw1 : k0_chk1 v2), ∀ a, (k0_off9 v2) a + S1x768.size a ≤ S65536x768.size a := fun v2 k0_hw1 => k0_hw1.2

def k0_off10 (v7 : BitVec 32) : Fin 2 → Nat :=
  let c0_i32_37 : BitVec 32 := 0#32
  ![v7.toNat, 0]

def k0_chk2 (v7 : BitVec 32) : Prop :=
  (∀ a, (k0_off2 v7) a + S1x768.size a ≤ S65536x768.size a) ∧
  (∀ a, (k0_off10 v7) a + S1x768.size a ≤ S65536x768.size a)
theorem k0_off2_inb : ∀ (v7 : BitVec 32) (k0_hw2 : k0_chk2 v7), ∀ a, (k0_off2 v7) a + S1x768.size a ≤ S65536x768.size a := fun v7 k0_hw2 => k0_hw2.1
theorem k0_off10_inb : ∀ (v7 : BitVec 32) (k0_hw2 : k0_chk2 v7), ∀ a, (k0_off10 v7) a + S1x768.size a ≤ S65536x768.size a := fun v7 k0_hw2 => k0_hw2.2

def k0_off11 (v12 : BitVec 32) : Fin 2 → Nat :=
  let c0_i32_40 : BitVec 32 := 0#32
  ![v12.toNat, 0]

def k0_chk3 (v12 : BitVec 32) : Prop :=
  (∀ a, (k0_off3 v12) a + S1x768.size a ≤ S65536x768.size a) ∧
  (∀ a, (k0_off11 v12) a + S1x768.size a ≤ S65536x768.size a)
theorem k0_off3_inb : ∀ (v12 : BitVec 32) (k0_hw3 : k0_chk3 v12), ∀ a, (k0_off3 v12) a + S1x768.size a ≤ S65536x768.size a := fun v12 k0_hw3 => k0_hw3.1
theorem k0_off11_inb : ∀ (v12 : BitVec 32) (k0_hw3 : k0_chk3 v12), ∀ a, (k0_off11 v12) a + S1x768.size a ≤ S65536x768.size a := fun v12 k0_hw3 => k0_hw3.2

def k0_off12 (v17 : BitVec 32) : Fin 2 → Nat :=
  let c0_i32_43 : BitVec 32 := 0#32
  ![v17.toNat, 0]

def k0_chk4 (v17 : BitVec 32) : Prop :=
  (∀ a, (k0_off4 v17) a + S1x768.size a ≤ S65536x768.size a) ∧
  (∀ a, (k0_off12 v17) a + S1x768.size a ≤ S65536x768.size a)
theorem k0_off4_inb : ∀ (v17 : BitVec 32) (k0_hw4 : k0_chk4 v17), ∀ a, (k0_off4 v17) a + S1x768.size a ≤ S65536x768.size a := fun v17 k0_hw4 => k0_hw4.1
theorem k0_off12_inb : ∀ (v17 : BitVec 32) (k0_hw4 : k0_chk4 v17), ∀ a, (k0_off12 v17) a + S1x768.size a ≤ S65536x768.size a := fun v17 k0_hw4 => k0_hw4.2

def k0_off13 (v22 : BitVec 32) : Fin 2 → Nat :=
  let c0_i32_46 : BitVec 32 := 0#32
  ![v22.toNat, 0]

def k0_chk5 (v22 : BitVec 32) : Prop :=
  (∀ a, (k0_off5 v22) a + S1x768.size a ≤ S65536x768.size a) ∧
  (∀ a, (k0_off13 v22) a + S1x768.size a ≤ S65536x768.size a)
theorem k0_off5_inb : ∀ (v22 : BitVec 32) (k0_hw5 : k0_chk5 v22), ∀ a, (k0_off5 v22) a + S1x768.size a ≤ S65536x768.size a := fun v22 k0_hw5 => k0_hw5.1
theorem k0_off13_inb : ∀ (v22 : BitVec 32) (k0_hw5 : k0_chk5 v22), ∀ a, (k0_off13 v22) a + S1x768.size a ≤ S65536x768.size a := fun v22 k0_hw5 => k0_hw5.2

def k0_off14 (v27 : BitVec 32) : Fin 2 → Nat :=
  let c0_i32_49 : BitVec 32 := 0#32
  ![v27.toNat, 0]

def k0_chk6 (v27 : BitVec 32) : Prop :=
  (∀ a, (k0_off6 v27) a + S1x768.size a ≤ S65536x768.size a) ∧
  (∀ a, (k0_off14 v27) a + S1x768.size a ≤ S65536x768.size a)
theorem k0_off6_inb : ∀ (v27 : BitVec 32) (k0_hw6 : k0_chk6 v27), ∀ a, (k0_off6 v27) a + S1x768.size a ≤ S65536x768.size a := fun v27 k0_hw6 => k0_hw6.1
theorem k0_off14_inb : ∀ (v27 : BitVec 32) (k0_hw6 : k0_chk6 v27), ∀ a, (k0_off14 v27) a + S1x768.size a ≤ S65536x768.size a := fun v27 k0_hw6 => k0_hw6.2

def k0_off15 (v32 : BitVec 32) : Fin 2 → Nat :=
  let c0_i32_52 : BitVec 32 := 0#32
  ![v32.toNat, 0]

def k0_chk7 (v32 : BitVec 32) : Prop :=
  (∀ a, (k0_off7 v32) a + S1x768.size a ≤ S65536x768.size a) ∧
  (∀ a, (k0_off15 v32) a + S1x768.size a ≤ S65536x768.size a)
theorem k0_off7_inb : ∀ (v32 : BitVec 32) (k0_hw7 : k0_chk7 v32), ∀ a, (k0_off7 v32) a + S1x768.size a ≤ S65536x768.size a := fun v32 k0_hw7 => k0_hw7.1
theorem k0_off15_inb : ∀ (v32 : BitVec 32) (k0_hw7 : k0_chk7 v32), ∀ a, (k0_off15 v32) a + S1x768.size a ≤ S65536x768.size a := fun v32 k0_hw7 => k0_hw7.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== RowsReference.lean ====
abbrev S1x128 : Shape := ⟨2, ![1, 128]⟩
abbrev S65536x768 : Shape := ⟨2, ![65536, 768]⟩
abbrev S1x8 : Shape := ⟨2, ![1, 8]⟩
abbrev S8 : Shape := ⟨1, ![8]⟩
abbrev S_ : Shape := ⟨0, ![]⟩
abbrev S8x1 : Shape := ⟨2, ![8, 1]⟩
abbrev S8x768 : Shape := ⟨2, ![8, 768]⟩

abbrev nBuf : Space → Nat
  | .hbm => 13
  | .vmem => 0
  | .smem => 0
  | _ => 0

abbrev bufTy : (tb : Table) → Fin (tcTables nBuf tb) → BufTy
  | .hbm, ⟨0, _⟩ => ⟨S1x128, .i32⟩
  | .hbm, ⟨1, _⟩ => ⟨S65536x768, .f32⟩
  | .hbm, ⟨2, _⟩ => ⟨S1x8, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x768, .f32⟩
  | _, _ => ⟨S1x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Rows.Body.lean ====
module

public import proofs.«01_k».proof.Rows
public import proofs.«01_k».proof.Proof.Gen.Rows
public import proofs.«01_k».proof.Proof.Gen.Rows.Skeleton
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Ring
public import Idealize.ShloMosaic.Lib.Tactic
public import Idealize.ShloMosaic.Lib.ValueIdxCore

@[expose] public section

noncomputable section

namespace Cert.Proof.RowsRun

open Cert.Rows Cert.Rows.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix2)

variable {F : FTy → Type}

/-! ## The resource algebra: the launch's handshakes beside the copies' counters -/

abbrev UH : Type := URounds (GSem nD τ sig) ℕ
abbrev UU : Type := UH × Counters

local notation "𝕄" => MT nD τ sig (HIx 1) (Elt F) ℕ UU ℕ

abbrev 𝒱₀ : Variants := Variants.none

local notation "iW" => (Memref.whole Cert.Rows.main_arg0_scs : Memref Cert.Rows.sig Kind.scScalar Space.hbm Cert.Rows.S1x128 EltTy.i32)
local notation "kW" => (Memref.whole Cert.Rows.main_arg1_scs : Memref Cert.Rows.sig Kind.scScalar Space.hbm Cert.Rows.S65536x768 EltTy.f32)
local notation "oW" => (Memref.whole Cert.Rows.main_v0_scs : Memref Cert.Rows.sig Kind.scScalar Space.hbm Cert.Rows.S8x768 EltTy.f32)
local notation "sW" => (Memref.whole Cert.Rows.cc0_scratch0 : Memref Cert.Rows.sig Kind.scScalar Space.smem Cert.Rows.S1x128 EltTy.i32)

variable [FloatOps F] (d : Dev nD)

def coordsS (c : Fin (grid0.bound 0)) : grid0.Coords := fun | 0 => c | ⟨_ + 1, h⟩ => absurd h (Nat.not_lt.2 (Nat.le_add_left _ _))

/-- SparseCore 0's sequencer thread. -/
abbrev S0 (h : 0 < grid0.bound 0) : Thread nD τ := S d ((⟨0, h⟩ : Fin (grid0.bound 0)).castLE hcore0)

variable (h : 0 < grid0.bound 0)

/-- The word the kernel reads from lane `b` of the index row. -/
abbrev word (fi : S1x128.Idx → BitVec 32) (b : Fin 8) : BitVec 32 := fi (ix2 0 ⟨b.val, by omega⟩)

omit [FloatOps F] in
theorem inb_src {n : Nat} (hn : n < 65536) : ∀ a, (![n, 0] : Fin 2 → Nat) a + S1x768.size a ≤ S65536x768.size a := by
  intro a; fin_cases a
  · show n + 1 ≤ 65536; omega
  · show 0 + 768 ≤ 768; omega
omit [FloatOps F] in
theorem inb_dst (b : Fin 8) : ∀ a, (![b.val, 0] : Fin 2 → Nat) a + S1x768.size a ≤ S8x768.size a := by
  have := b.isLt
  intro a; fin_cases a
  · show b.val + 1 ≤ 8; omega
  · show 0 + 768 ≤ 768; omega

omit [FloatOps F] in
theorem inb_lane (b : Fin 8) : ∀ a, (![0, b.val] : Fin 2 → Nat) a + S1x1.size a ≤ S1x128.size a := by
  have := b.isLt
  intro a; fin_cases a
  · show 0 + 1 ≤ 1; omega
  · show b.val + 1 ≤ 128; omega

/-- Row `n` of the keys, and row `b` of the result, as the copies address them. -/
def srcM (n : Nat) (hn : n < 65536) : Memref sig .scScalar .hbm S1x768 .f32 :=
  (kW).slice (Rect.unit (s := S65536x768) ![n, 0] S1x768.size (inb_src hn)) (fun _ => rfl)
def dstM (b : Fin 8) : Memref sig .scScalar .hbm S1x768 .f32 :=
  (oW).slice (Rect.unit (s := S8x768) ![b.val, 0] S1x768.size (inb_dst b)) (fun _ => rfl)

/-- The share of the keys that copy `b` reads at. -/
abbrev tok (b : Fin 8) : PosShare TreeShare := Transfers.shareTok fullShare 8 b

variable {d h}
variable (fi : S1x128.Idx → BitVec 32) (hr : ∀ b : Fin 8, (word fi b).toNat < 65536)
variable (fk : (b : Fin 8) → Buf (Elt F) ((srcM _ (hr b)).view.loc (S0 d h))) (fo : (b : Fin 8) → Buf (Elt F) ((dstM b).view.loc (S0 d h)))

/-- Row `b` of the result once its copy has landed. -/
abbrev landed (b : Fin 8) : Buf (Elt F) ((dstM b).view.loc (S0 d h)) :=
  (dstM b).view.writes (Elt F) (fo b) [⟨Rect.whole S1x768, ReadAs.same.apply ((srcM _ (hr b)).view.read (Elt F) (fk b))⟩]

abbrev srcP (b : Fin 8) : sProp 𝕄 :=
  (srcM _ (hr b)).view.loc (S0 d h) ↦[(srcM _ (hr b)).view.set]{tok b} fk b
abbrev dstP (b : Fin 8) (f : Buf (Elt F) ((dstM b).view.loc (S0 d h))) : sProp 𝕄 :=
  (dstM b).view.loc (S0 d h) ↦[(dstM b).view.set]{fullShare} f

/-- What copy `b` hands back: its row of the result filled, and its share of the row it read. -/
abbrev deliv (b : Fin 8) : sProp 𝕄 := iprop(dstP b (landed fi hr fk fo b) ∗ srcP fi hr fk b)

/-- One row copy's credit. -/
abbrev N : ℕ := (dstM 0).view.amount (SemLoc.dma (sig := sig) 0)

theorem chk1_of_lt (v : BitVec 32) (hv : v.toNat < 65536) : k0_chk1 v := ⟨inb_src hv, inb_src hv⟩
theorem chk2_of_lt (v : BitVec 32) (hv : v.toNat < 65536) : k0_chk2 v := ⟨inb_src hv, inb_src hv⟩
theorem chk3_of_lt (v : BitVec 32) (hv : v.toNat < 65536) : k0_chk3 v := ⟨inb_src hv, inb_src hv⟩
theorem chk4_of_lt (v : BitVec 32) (hv : v.toNat < 65536) : k0_chk4 v := ⟨inb_src hv, inb_src hv⟩
theorem chk5_of_lt (v : BitVec 32) (hv : v.toNat < 65536) : k0_chk5 v := ⟨inb_src hv, inb_src hv⟩
theorem chk6_of_lt (v : BitVec 32) (hv : v.toNat < 65536) : k0_chk6 v := ⟨inb_src hv, inb_src hv⟩
theorem chk7_of_lt (v : BitVec 32) (hv : v.toNat < 65536) : k0_chk7 v := ⟨inb_src hv, inb_src hv⟩
theorem chk8_of_lt (v : BitVec 32) (hv : v.toNat < 65536) : k0_chk8 v := inb_src hv

/-- The lane `b` of the scratch row, read after the index row has been copied over the whole of it. -/
theorem loaded (fs : Buf (Elt F) ((sW).view.loc (S0 d h))) (w : S1x128.Idx → BitVec 32) (b : Fin 8) :
    View.readAt (Elt F) (sW).view (Rect.unit (s := S1x128) ![0, b.val] S1x1.size (inb_lane b)).toLoadRect
      (View.write (Elt F) (sW).view fs w Finset.univ) (Shape.Idx.first (s := S1x1) (by decide)) = word w b := by
  simp
  rw [View.read_apply]
  refine congrArg w (funext fun a => ?_)
  fin_cases a <;> exact Fin.ext (by simp [View.whole, ix2, Shape.Idx.first])

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

variable (d h)

/-- One run of the kernel: with the index words in range it copies row `word b` of the keys to row `b` of the result. -/
theorem seq_run (O : CellTallies nD τ sig (HIx 1)) (W : Waits sig (HIx 1)) (fs : Buf (Elt F) ((sW).view.loc (S0 d h))) :
    (iprop(Transfers.MayWaits (S0 d h) (none : HIx 1) O
        ∗ ((iW).view.loc (S0 d h) ↦{fullShare} fi)
        ∗ bigSep Finset.univ (fun b => srcP (d := d) (h := h) fi hr fk b)
        ∗ bigSep Finset.univ (fun b => dstP (d := d) (h := h) b (fo b))
        ∗ ((sW).view.loc (S0 d h) ↦{fullShare} fs)
        ∗ semVal (S0 d h, SemLoc.dma (0 : DmaSem sig)) 0 ∗ semVal (S0 d h, SemLoc.dma (1 : DmaSem sig)) 0
        ∗ owes (S0 d h) O W) : sProp 𝕄)
      ⊢ wp frame (wpE (defs₀ (F := F)) 𝒱₀ (S0 d h) none) Set.univ
          (cc0_body (coordsS ⟨0, h⟩) iW (Memref.isWhole_whole _) kW (Memref.isWhole_whole _) oW (Memref.isWhole_whole _)
            sW (Memref.isWhole_whole _) cc0_scratch1 cc0_scoped0)
          fun _ => iprop(((iW).view.loc (S0 d h) ↦{fullShare} fi)
            ∗ bigSep Finset.univ (fun b => srcP (d := d) (h := h) fi hr fk b)
            ∗ bigSep Finset.univ (fun b => dstP (d := d) (h := h) b (landed fi hr fk fo b))
            ∗ (∃ g, (sW).view.loc (S0 d h) ↦{fullShare} g)
            ∗ semVal (S0 d h, SemLoc.dma (0 : DmaSem sig)) 0 ∗ semVal (S0 d h, SemLoc.dma (1 : DmaSem sig)) 0
            ∗ ∃ W', ⌜∀ p ∈ W', p ∈ W ∨ p.2 = none ∨ p.2 = some (0 : Fin 1)⌝ ∗ owes (S0 d h) O W') := by
  rw [bigSep_fin8 (fun b => srcP (d := d) (h := h) fi hr fk b), bigSep_fin8 (fun b => dstP (d := d) (h := h) b (fo b)),
    bigSep_fin8 (fun b => dstP (d := d) (h := h) b (landed fi hr fk fo b))]
  iintro ⟨#Hmw, Hi, ⟨Hk0, Hk1, Hk2, Hk3, Hk4, Hk5, Hk6, Hk7⟩, ⟨Ho0, Ho1, Ho2, Ho3, Ho4, Ho5, Ho6, Ho7⟩, Hs, Hc0, Hc1, HO⟩
  iapply (fupd_wp (Fr := Idealize.ShloMosaic.frame))
  imod (Transfers.batch_alloc' (Lvl := ℕ) (countersEmb (U := UU)) (S0 d h) (none : HIx 1) N (deliv (d := d) (h := h) fi hr fk fo) (sm := SemLoc.dma (0 : DmaSem sig)) (E := Set.univ)) $$ Hc0 with HB
  imodintro
  sl_unfold [cc0_body]
  sl_exec
  rw [show seq_run.sl.r d h fi fs = word fi 0 from loaded fs fi 0]
  iapply (wp_assume _ _ _ _ (chk1_of_lt _ (hr 0)))
  sl_exec
  rw [show seq_run.sl.r_1 d h fi fs = word fi 1 from loaded fs fi 1]
  iapply (wp_assume _ _ _ _ (chk2_of_lt _ (hr 1)))
  sl_exec
  rw [show seq_run.sl.r_2 d h fi fs = word fi 2 from loaded fs fi 2]
  iapply (wp_assume _ _ _ _ (chk3_of_lt _ (hr 2)))
  sl_exec
  rw [show seq_run.sl.r_3 d h fi fs = word fi 3 from loaded fs fi 3]
  iapply (wp_assume _ _ _ _ (chk4_of_lt _ (hr 3)))
  sl_exec
  rw [show seq_run.sl.r_4 d h fi fs = word fi 4 from loaded fs fi 4]
  iapply (wp_assume _ _ _ _ (chk5_of_lt _ (hr 4)))
  sl_exec
  rw [show seq_run.sl.r_10 d h fi fs = word fi 5 from loaded fs fi 5]
  iapply (wp_assume _ _ _ _ (chk6_of_lt _ (hr 5)))
  sl_exec
  rw [show seq_run.sl.r_11 d h fi fs = word fi 6 from loaded fs fi 6]
  iapply (wp_assume _ _ _ _ (chk7_of_lt _ (hr 6)))
  sl_exec
  rw [show seq_run.sl.r_12 d h fi fs = word fi 7 from loaded fs fi 7]
  iapply (wp_assume _ _ _ _ (chk8_of_lt _ (hr 7)))
  sl_exec
  rw [wp_ret]
  imodintro
  isplitl [Hi]; · iexact Hi
  isplitl [HB_src0 HB_src1 HB_src2 HB_src3 HB_src4 HB_src5 HB_src6 HB_src7]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  isplitl [HB_dst0 HB_dst1 HB_dst2 HB_dst3 HB_dst4 HB_dst5 HB_dst6 HB_dst7]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  isplitl [Hs]; · iexists _; iexact Hs
  isplitl [HB]; · iexact HB
  isplitl [Hc1]; · iexact Hc1
  iexists _; isplitr
  rotate_left
  · iexact HO
  · ipureintro
    intro p _
    rcases p.2 with _ | q
    · exact .inr (.inl rfl)
    · exact .inr (.inr (congrArg some (Subsingleton.elim q 0)))

/-! ## The arrays whole -/

/-- The result: row `b` is row `word b` of the keys. -/
def gathered (fi : S1x128.Idx → BitVec 32) (hr : ∀ b : Fin 8, (word fi b).toNat < 65536)
    (f : S65536x768.Idx → Elt F .f32) : S8x768.Idx → Elt F .f32 :=
  fun i => f (ix2 ⟨(word fi (i 0)).toNat, hr (i 0)⟩ (i 1))

/-- Element `x` of a copied row, in the keys and in the result. -/
theorem src_emb (n : ℕ) (hn : n < 65536) (x : S1x768.Idx) : (srcM n hn).view.emb x = (ix2 ⟨n, hn⟩ (x 1) : S65536x768.Idx) := by
  have x0 : (x 0).val < 1 := (x 0).isLt
  refine funext fun a => ?_
  fin_cases a
  · exact Fin.ext (show n + 1 * (x 0).val = n by omega)
  · exact Fin.ext (show 0 + 1 * (x 1).val = (x 1).val by omega)

theorem dst_emb (b : Fin 8) (x : S1x768.Idx) : (dstM b).view.emb x = (ix2 b (x 1) : S8x768.Idx) := by
  have x0 : (x 0).val < 1 := (x 0).isLt
  refine funext fun a => ?_
  fin_cases a
  · exact Fin.ext (show b.val + 1 * (x 0).val = b.val by omega)
  · exact Fin.ext (show 0 + 1 * (x 1).val = (x 1).val by omega)

omit [FloatOps F] in
theorem landed_emb (fk : S65536x768.Idx → Elt F .f32) (fo : S8x768.Idx → Elt F .f32) (b : Fin 8) (x : S1x768.Idx) :
    landed (d := d) (h := h) fi hr (fun _ => fk) (fun _ => fo) b ((dstM b).view.emb x) = fk ((srcM _ (hr b)).view.emb x) :=
  eq_of_heq ((cast_heq _ _).symm.trans (heq_of_eq (congrFun (View.read_writes_whole (Val := Elt F) (dstM b).view fo
    (ReadAs.same.apply ((srcM _ (hr b)).view.read (Elt F) fk))) x)))

omit [FloatOps F] in
theorem landed_eq (fk : S65536x768.Idx → Elt F .f32) (fo : S8x768.Idx → Elt F .f32) (b : Fin 8) :
    ∀ i ∈ (dstM b).view.set, landed (d := d) (h := h) fi hr (fun _ => fk) (fun _ => fo) b i = gathered fi hr fk i := by
  intro i hi
  obtain ⟨x, -, rfl⟩ := Finset.mem_map.mp hi
  refine (landed_emb (d := d) (h := h) fi hr fk fo b x).trans ?_
  rw [src_emb, dst_emb]
  rfl

/-- Row `b` of the result as a set of elements. -/
abbrev rowSet (b : Fin 8) : Finset S8x768.Idx := (Rect.unit (s := S8x768) ![b.val, 0] S1x768.size (inb_dst b)).set

omit [FloatOps F] in
theorem dstP_eq (b : Fin 8) (f : S8x768.Idx → Elt F .f32) :
    (dstP (d := d) (h := h) b f : sProp 𝕄) = ((oW).view.loc (S0 d h) ↦[rowSet b]{fullShare} f) := by
  unfold dstP
  rw [show (dstM b).view.set = rowSet b from View.set_slice_whole _ _]
  rfl

omit [FloatOps F] in
theorem dst_blocks (f : S8x768.Idx → Elt F .f32) :
    ((oW).view.loc (S0 d h) ↦{fullShare} f : sProp 𝕄) = bigSep Finset.univ fun b : Fin 8 => dstP (d := d) (h := h) b f := by
  simp only [dstP_eq]
  refine Ring.pointsTo_blocks (ℓ := (oW).view.loc (S0 d h)) (fun b : Fin 8 => rowSet b) ?_ ?_ f
  · intro b b' hb
    exact Ring.lead_disjoint (s := S8x768) (0 : Fin 2) 1 (fun b : Fin 8 => ![b.val, 0]) S1x768.size inb_dst
      (fun b => (Nat.one_mul _).symm) rfl b b' hb
  · exact Ring.lead_cover (s := S8x768) (0 : Fin 2) 1 (fun b : Fin 8 => ![b.val, 0]) S1x768.size inb_dst
      (fun b => (Nat.one_mul _).symm) (fun b a ha => by fin_cases a; exact absurd rfl ha; rfl) rfl
      (fun a ha => by fin_cases a; exact absurd rfl ha; rfl) rfl

/-- Row `n` of the keys as a set of elements. -/
abbrev keySet (d : Dev nD) (h : 0 < grid0.bound 0) (n : ℕ) (hn : n < 65536) : Finset (Idx ((kW).view.loc (S0 d h))) :=
  (Rect.unit (s := S65536x768) ![n, 0] S1x768.size (inb_src hn)).set

/-- What is left of the keys when each copy's share of its own row is set aside. -/
abbrev keysRest (fk : S65536x768.Idx → Elt F .f32) : sProp 𝕄 :=
  iprop(((kW).view.loc (S0 d h) ↦{Transfers.shareDrop fullShare 8} fk)
    ∗ bigSep Finset.univ fun b : Fin 8 => (kW).view.loc (S0 d h) ↦[Finset.univ \ keySet d h _ (hr b)]{tok b} fk)

omit [FloatOps F] in
theorem srcP_eq (b : Fin 8) (f : S65536x768.Idx → Elt F .f32) :
    (srcP (d := d) (h := h) fi hr (fun _ => f) b : sProp 𝕄)
      = ((kW).view.loc (S0 d h) ↦[keySet d h _ (hr b)]{tok b} f) := by
  unfold srcP
  rw [show (srcM _ (hr b)).view.set = keySet d h _ (hr b) from View.set_slice_whole _ _]
  rfl

omit [FloatOps F] in
theorem keys_split (f : S65536x768.Idx → Elt F .f32) :
    ((kW).view.loc (S0 d h) ↦{fullShare} f : sProp 𝕄)
      ⊣⊢ iprop(bigSep Finset.univ (fun b => srcP (d := d) (h := h) fi hr (fun _ => f) b) ∗ keysRest (d := d) (h := h) fi hr f) := by
  have e : (bigSep Finset.univ fun b : Fin 8 => ((kW).view.loc (S0 d h) ↦{tok b} f : sProp 𝕄))
      = iprop(bigSep Finset.univ (fun b => srcP (d := d) (h := h) fi hr (fun _ => f) b)
        ∗ bigSep Finset.univ fun b : Fin 8 => (kW).view.loc (S0 d h) ↦[Finset.univ \ keySet d h _ (hr b)]{tok b} f) := by
    rw [← bigSep_sep']
    refine congrArg (bigSep Finset.univ) (funext fun b => ?_)
    rw [srcP_eq]
    exact equiv_iff.mp ⟨(pointsTo_split_subset (Finset.subset_univ _)).1, (pointsTo_split_subset (Finset.subset_univ _)).2⟩
  constructor
  · refine (Transfers.pointsTo_toks_split fullShare 8).trans ?_
    rw [e]
    iintro ⟨Hd, Hs, Hr⟩
    isplitl [Hs]; · iexact Hs
    isplitl [Hd]; · iexact Hd
    iexact Hr
  · refine BIBase.Entails.trans ?_ (Transfers.pointsTo_toks_join fullShare 8)
    rw [e]
    iintro ⟨Hs, Hd, Hr⟩
    isplitl [Hd]; · iexact Hd
    isplitl [Hs]; · iexact Hs
    iexact Hr

/-- The same run with the arrays whole: the result ends as `gathered`, the index row and the keys as they were. -/
theorem seq_run_whole (O : CellTallies nD τ sig (HIx 1)) (W : Waits sig (HIx 1)) (fs : Buf (Elt F) ((sW).view.loc (S0 d h)))
    (f : S65536x768.Idx → Elt F .f32) (g : S8x768.Idx → Elt F .f32) :
    (iprop(Transfers.MayWaits (S0 d h) (none : HIx 1) O
        ∗ ((iW).view.loc (S0 d h) ↦{fullShare} fi) ∗ ((kW).view.loc (S0 d h) ↦{fullShare} f) ∗ ((oW).view.loc (S0 d h) ↦{fullShare} g)
        ∗ ((sW).view.loc (S0 d h) ↦{fullShare} fs)
        ∗ semVal (S0 d h, SemLoc.dma (0 : DmaSem sig)) 0 ∗ semVal (S0 d h, SemLoc.dma (1 : DmaSem sig)) 0
        ∗ owes (S0 d h) O W) : sProp 𝕄)
      ⊢ wp frame (wpE (defs₀ (F := F)) 𝒱₀ (S0 d h) none) Set.univ
          (cc0_body (coordsS ⟨0, h⟩) iW (Memref.isWhole_whole _) kW (Memref.isWhole_whole _) oW (Memref.isWhole_whole _)
            sW (Memref.isWhole_whole _) cc0_scratch1 cc0_scoped0)
          fun _ => iprop(((iW).view.loc (S0 d h) ↦{fullShare} fi) ∗ ((kW).view.loc (S0 d h) ↦{fullShare} f)
            ∗ ((oW).view.loc (S0 d h) ↦{fullShare} gathered fi hr f)
            ∗ (∃ g, (sW).view.loc (S0 d h) ↦{fullShare} g)
            ∗ semVal (S0 d h, SemLoc.dma (0 : DmaSem sig)) 0 ∗ semVal (S0 d h, SemLoc.dma (1 : DmaSem sig)) 0
            ∗ ∃ W', ⌜∀ p ∈ W', p ∈ W ∨ p.2 = none ∨ p.2 = some (0 : Fin 1)⌝ ∗ owes (S0 d h) O W') := by
  iintro ⟨#Hmw, Hi, Hk, Ho, Hs, Hc0, Hc1, HO⟩
  ihave Hk := (keys_split (d := d) (h := h) fi hr f).1 $$ Hk
  icases Hk with ⟨Hk, Hrest⟩
  iapply (wp_wand_r Idealize.ShloMosaic.frame (wpE (defs₀ (F := F)) 𝒱₀ (S0 d h) none) Set.univ)
  isplitl [Hi Hk Ho Hs Hc0 Hc1 HO]
  · iapply (seq_run d h fi hr (fun _ => f) (fun _ => g) O W fs)
    isplitr; · iexact Hmw
    isplitl [Hi]; · iexact Hi
    isplitl [Hk]; · iexact Hk
    isplitl [Ho]; · iapply (BIBase.Entails.of_eq (dst_blocks (d := d) (h := h) g)); iexact Ho
    isplitl [Hs]; · iexact Hs
    isplitl [Hc0]; · iexact Hc0
    isplitl [Hc1]; · iexact Hc1
    iexact HO
  · iintro %_ ⟨Hi, Hk, Ho, Hrem⟩
    isplitl [Hi]; · iexact Hi
    isplitl [Hk Hrest]
    · iapply (keys_split (d := d) (h := h) fi hr f).2
      isplitl [Hk]; · iexact Hk
      iexact Hrest
    isplitl [Ho]
    · rw [dst_blocks (d := d) (h := h) (gathered fi hr f)]
      rw [show (fun b : Fin 8 => (dstP (d := d) (h := h) b (gathered fi hr f) : sProp 𝕄))
        = fun b => dstP (d := d) (h := h) b (landed fi hr (fun _ => f) (fun _ => g) b) from
          funext fun b => (pointsTo_congr (landed_eq (d := d) (h := h) fi hr f g b)).symm]
      iexact Ho
    iexact Hrem

end Cert.Proof.RowsRun

end
-- ==== Proof.Rows.Launch.lean ====
module

public import proofs.«01_k».proof.Proof.Rows.Body

@[expose] public section

noncomputable section

namespace Cert.Proof.RowsRun

open Cert.Rows Cert.Rows.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix2)

variable {F : FTy → Type}

local notation "𝕄" => MT nD τ sig (HIx 1) (Elt F) ℕ UU ℕ
local notation "iW" => (Memref.whole Cert.Rows.main_arg0_scs : Memref Cert.Rows.sig Kind.scScalar Space.hbm Cert.Rows.S1x128 EltTy.i32)
local notation "kW" => (Memref.whole Cert.Rows.main_arg1_scs : Memref Cert.Rows.sig Kind.scScalar Space.hbm Cert.Rows.S65536x768 EltTy.f32)
local notation "oW" => (Memref.whole Cert.Rows.main_v0_scs : Memref Cert.Rows.sig Kind.scScalar Space.hbm Cert.Rows.S8x768 EltTy.f32)
local notation "sW" => (Memref.whole Cert.Rows.cc0_scratch0 : Memref Cert.Rows.sig Kind.scScalar Space.smem Cert.Rows.S1x128 EltTy.i32)

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH (MT nD τ sig (HIx 1) (Elt F) ℕ UU ℕ) := embL

variable [FloatOps F]
variable (m : (ℓ : Loc nD τ sig) → Buf (Elt F) ℓ) (ρ : Dev nD → PrngReg)

abbrev iLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v0
abbrev sLoc (d : Dev nD) (c : Fin τ.nSC) : Loc nD τ sig := (S d c).loc cc0_scratch0

variable (hr : ∀ (d : Dev nD) (b : Fin 8), (word (m (iLoc d)) b).toNat < 65536)

/-- The result array once the kernel has run. -/
abbrev out (d : Dev nD) : Buf (Elt F) (oLoc d) := gathered (F := F) (m (iLoc d)) (hr d) (m (kLoc d))

abbrev before (d : Dev nD) : sProp 𝕄 :=
  iprop((iLoc d ↦{fullShare} m (iLoc d)) ∗ (kLoc d ↦{fullShare} m (kLoc d)) ∗ oLoc d ↦{fullShare} m (oLoc d))
abbrev after (d : Dev nD) : sProp 𝕄 :=
  iprop((iLoc d ↦{fullShare} m (iLoc d)) ∗ (kLoc d ↦{fullShare} m (kLoc d)) ∗ oLoc d ↦{fullShare} out m hr d)

/-- What the launch hands the SparseCore and takes back. -/
def P : (K (F := F)).Pay (nD := nD) (Val := Elt F) (Name := ℕ) (U := UU) where
  st := fun _ d _ => before m d
  dn := fun _ d _ => after m hr d
  go := fun _ _ _ _ => iprop(emp)
  td := fun _ _ _ _ => iprop(emp)
  x := fun _ _ => iprop(emp)

instance P_storable : (P (F := F) m hr).IsStorable where
  st _ d c := by unfold P; infer_instance
  dn _ d c := by unfold P; infer_instance
  go _ d c i := by unfold P; infer_instance
  td _ d c i := by unfold P; infer_instance

section Body
variable (d : Dev nD)

abbrev dcell (c : Fin τ.nSC) (k : Fin 2) : GSem nD τ sig := (S d c, .dma (⟨k.val, k.isLt⟩ : DmaSem sig))

theorem dcell_mem (c : Fin τ.nSC) (k : Fin 2) : dcell d c k ∈ ownCells (S d c) :=
  mem_ownCells.mpr ⟨rfl, (show ∀ s : DmaSem sig, (SemLoc.dma s : SemLoc sig).isScoped .scScalar = true by decide) _⟩

omit [FloatOps F] in
/-- The sequencer's own cells at zero: the two the body uses, and the rest. -/
theorem ownSems0_S (c : Fin τ.nSC) :
    (ownSems0 (S d c) : sProp 𝕄)
      = iprop((semVal (dcell d c 0) 0 ∗ semVal (dcell d c 1) 0)
          ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 2)) = {0, 1} by decide, SparseCore.bigSep_insert' (by decide), bigSep_singleton]

omit [FloatOps F] in
/-- The sequencer's own buffers: the scalar scratch, at some contents, and the rest. -/
theorem ownBufs_S (c : Fin τ.nSC) :
    (ownBufs (S d c) : sProp 𝕄)
      = iprop((∃ f, sLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

omit [FloatOps F] in
theorem pts_i (c : Fin τ.nSC) (f : Buf (Elt F) (iLoc d)) :
    ((iW).view.loc (S d c) ↦{fullShare} f : sProp 𝕄) = iLoc d ↦{fullShare} f := by
  simp only [Memref.view_whole, View.set_whole]
omit [FloatOps F] in
theorem pts_k (c : Fin τ.nSC) (f : Buf (Elt F) (kLoc d)) :
    ((kW).view.loc (S d c) ↦{fullShare} f : sProp 𝕄) = kLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) (sLoc d c)) :
    ((sW).view.loc (S d c) ↦{fullShare} f : sProp 𝕄) = sLoc d c ↦{fullShare} f := by
  simp only [Memref.view_whole, View.set_whole]

/-- The kernel on SparseCore 0's sequencer, from what the launch hands it to what it hands back. -/
theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ before m d
        ∗ scopedBufs (S0 d h) ∗ scopedSems0 (S0 d h) ∗ owes (S0 d h) O W)
      ⊢ wp frame (wpE (defs₀ (F := F)) 𝒱₀ (S0 d h) none) Set.univ
          (cc0_body (coordsS ⟨0, h⟩) iW (Memref.isWhole_whole _) kW (Memref.isWhole_whole _) oW (Memref.isWhole_whole _)
            sW (Memref.isWhole_whole _) cc0_scratch1 cc0_scoped0)
          fun _ => iprop(after m hr d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨Hi, Hk, Ho⟩, ⟨⟨⟨%fs, Hs⟩, Hbufs⟩, Htiles⟩, ⟨⟨⟨Hc0, Hc1⟩, Hsems⟩, HtileSems⟩, HO⟩
  ihave Hmw := ((K (F := F)).mayWaits_none (thr := S0 d h) hO) $$ Hlv
  ihave Hi' := (Entails.of_eq (pts_i (F := F) d _ _).symm) $$ Hi
  ihave Hk' := (Entails.of_eq (pts_k (F := F) d _ _).symm) $$ Hk
  ihave Ho' := (Entails.of_eq (pts_o (F := F) d _ _).symm) $$ Ho
  ihave Hs' := (Entails.of_eq (pts_s (F := F) d _ _).symm) $$ Hs
  iapply (wp_wand_r Idealize.ShloMosaic.frame (wpE (defs₀ (F := F)) 𝒱₀ (S0 d h) none) Set.univ)
  isplitl [Hi' Hk' Ho' Hs' Hc0 Hc1 HO]
  · iapply (seq_run_whole d h (m (iLoc d)) (hr d) O W fs (m (kLoc d)) (m (oLoc d)))
    isplitr; · iexact Hmw
    isplitl [Hi']; · iexact Hi'
    isplitl [Hk']; · iexact Hk'
    isplitl [Ho']; · iexact Ho'
    isplitl [Hs']; · iexact Hs'
    isplitl [Hc0]; · iexact Hc0
    isplitl [Hc1]; · iexact Hc1
    iexact HO
  iintro %_ ⟨Hi', Hk', Ho', ⟨%g, Hs'⟩, Hc0, Hc1, HO⟩
  isplitl [Hi' Hk' Ho']
  · isplitl [Hi']; · iapply (Entails.of_eq (pts_i (F := F) d _ _)); iexact Hi'
    isplitl [Hk']; · iapply (Entails.of_eq (pts_k (F := F) d _ _)); iexact Hk'
    iapply (Entails.of_eq (pts_o (F := F) d _ _)); iexact Ho'
  isplitl [Hs' Hbufs Htiles]
  · isplitl [Hs' Hbufs]
    · isplitl [Hs']; · iexists _; iapply (Entails.of_eq (pts_s (F := F) d _ _)); iexact Hs'
      iexact Hbufs
    iexact Htiles
  isplitl [Hc0 Hc1 Hsems HtileSems]
  · isplitl [Hc0 Hc1 Hsems]
    · isplitl [Hc0 Hc1]
      · isplitl [Hc0]; · iexact Hc0
        iexact Hc1
      iexact Hsems
    iexact HtileSems
  iexact HO

end Body

/-! ## The launch -/

theorem defs₀_scalar (c : Fin τ.nSC) :
    defs₀ (F := F) (.scScalar c) 0 ()
      = SparseCore.onCore hcore0 (fun c => cc0_body (coordsS c) iW (Memref.isWhole_whole _) kW (Memref.isWhole_whole _) oW (Memref.isWhole_whole _)
          sW (Memref.isWhole_whole _) cc0_scratch1 cc0_scoped0) ⟨⟩ c := rfl

theorem scalarObl : (K (F := F)).ScalarObl (D (F := F)) 𝒱 (P m hr) v₀ 0 := by
  intro d c O W hO _ _
  simp only [show (P m hr).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m hr d facts h O W hO

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hr).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m hr).x q thr) = bigSep Finset.univ fun _ => iprop(emp) from
    bigSep_congr fun _ _ => bigSep_univ_of_subsingleton (0 : Fin 1), bigSep_nothing]
  iempintro

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (kLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m hr).st 0 d c) = before m d :=
  bigSep_univ_of_subsingleton (0 : Fin 1)
theorem dn0_eq (d : Dev nD) : (bigSep Finset.univ fun c : Fin ((K (F := F)).nCore 0) => (P m hr).dn 0 d c) = after m hr d :=
  bigSep_univ_of_subsingleton (0 : Fin 1)

/-- @main on the TensorCore: the one call, the three arrays handed over and taken back. -/
theorem hmain (κ : GSem nD τ sig → ℕ) (d : Dev nD) :
    iprop((K (F := F)).ctx EH (P m hr) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ after m hr d ∗ (K (F := F)).tcEnd d) := by
  unfold SparseCore.Cfg.tcRes SparseCore.Cfg.tcEnd
  rw [unscopedBufs_eq]
  simp only [main, wp_bind, wp_pure]
  iintro ⟨#Hctx, Hst, ⟨Hb, Hh, Hts, -⟩, -⟩
  iapply ((K (F := F)).wp_run (D (F := F)) 𝒱 (EH := EH) (P := P m hr) κ d 0) $$ [Hst Hh Hb Hts]
  isplitr; · iexact Hctx
  isplitl [Hst]; · iexact Hst
  isplitl [Hh]
  · rw [st0_eq]; iexact Hh
  iintro ⟨Hst, Hdn⟩
  ihave Hdn' := (Entails.of_eq (dn0_eq m hr d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (oLoc d) = out m hr d ∧ s'.mem.mem (iLoc d) = m (iLoc d) ∧ s'.mem.mem (kLoc d) = m (kLoc d)

omit [FloatOps F] in
/-- An array held in full is what the memory holds. -/
theorem read_full (s' : Phys nD τ sig (Elt F)) (ℓ : Loc nD τ sig) (f : Buf (Elt F) ℓ) (R : sProp 𝕄)
    (h : R ⊢ iprop(SI s' ∗ ℓ ↦{fullShare} f)) : R ⊢ (⌜s'.mem.mem ℓ = f⌝ : sProp 𝕄) :=
  (h.trans SI_pointsTo_agree).trans (Laws.pure_mono fun e => funext fun i => e i (Finset.mem_univ i))

theorem hfin (d : Dev nD) (s' : Phys nD τ sig (Elt F)) : iprop(after m hr d ∗ SI s') ⊢ (⌜fq m hr d s'⌝ : sProp 𝕄) := by
  refine pure_elim _ (read_full s' (oLoc d) (out m hr d) _ ?_) fun h1 => ?_
  · iintro ⟨⟨-, -, H⟩, HS⟩; isplitl [HS] <;> iassumption
  refine pure_elim _ (read_full s' (iLoc d) (m (iLoc d)) _ ?_) fun h2 => ?_
  · iintro ⟨⟨H, -, -⟩, HS⟩; isplitl [HS] <;> iassumption
  refine pure_elim _ (read_full s' (kLoc d) (m (kLoc d)) _ ?_) fun h3 => ?_
  · iintro ⟨⟨-, H, -⟩, HS⟩; isplitl [HS] <;> iassumption
  exact BIClass.pure_intro ⟨h1, h2, h3⟩

def QC : PUnit × MemSt nD τ sig (Elt F) → Prop := fun r =>
  (∀ c : Dev nD, r.2.mem (oLoc c) = out m hr c ∧ r.2.mem (iLoc c) = m (iLoc c) ∧ r.2.mem (kLoc c) = m (kLoc c)) ∧ r.2.sem = fun _ => 0

/-- The program's run: the result is `out`, the arguments are kept, every semaphore ends at zero. -/
theorem run_main [∀ e, Nonempty (Elt F e)] : θ_run (Cert.Rows.defs (F := F)) (Cert.Rows.threads (F := F)) ⟨m, fun _ => 0, ρ⟩ (QC m hr) :=
  SparseCore.Cfg.θ_run_sc_quiescent (K := K (F := F)) (D := D (F := F)) (𝒱 := 𝒱) (EH := EH) (P := P m hr) (A := ∅) facts v₀
    (fun q _ => match q with | 0 => scalarObl m hr)
    (fun q hq => match q with | 0 => nomatch hq)
    (fun q hq => match q with | 0 => nomatch hq)
    m ρ main (fun _ => iprop(emp)) (after m hr) (u₀ (F := F)) (sep_elim_left.trans (hu₀ m hr)) (hmain m ρ hr) (fq m hr) (hfin m hr) (QC m hr) (fun _ h hz => ⟨h, hz⟩)

end Cert.Proof.RowsRun

end
-- ==== Proof.Rows.Claims.lean ====
/-
  What the claims on `Rows` ask, from its run (Rows/Launch.lean): the precondition `rows_in_range` gives every index its
  range; the frame is the run with the result dropped; the result is the reference's `memory_keys[rows[0, :8]]`.
-/
module

public import proofs.«01_k».proof.Defs
public import proofs.«01_k».proof.Proof.Rows.Launch
public import proofs.«01_k».proof.Proof.Gen.RowsReference
public import proofs.«01_k».proof.Proof.Gen.RowsReference.Run
public import proofs.«01_k».proof.Proof.Gen.Pre_rows_in_range
public import Idealize.ShloMosaic.Lib.Claim
public import Idealize.ShloMosaic.Lib.Pointwise
public import Idealize.ShloMosaic.Lib.ReduceAll
public import Idealize.ShloMosaic.Lib.StableHlo.Predicate
public import Idealize.ShloMosaic.Lib.Routing.Ops

@[expose] public section

noncomputable section

namespace Cert.Proof.RowsRun

open Idealize.ShloMosaic hiding ix1 ix2
open Idealize.ShloMosaic.ValueIdx Idealize.SL.Sem

/-- A word that is at least 0 and below 65536 as a signed number is below 65536 as a natural number. -/
theorem toNat_lt_of_signed (w : BitVec 32) (h0 : IntOp.cmpi .sge w 0#32 = 1#1) (h1 : IntOp.cmpi .slt w 65536#32 = 1#1) :
    w.toNat < 65536 := by
  have h0' : (0#32).sle w = true := (StableHlo.Predicate.ofBool_eq_one_iff _).mp h0
  have h1' : w.slt 65536#32 = true := (StableHlo.Predicate.ofBool_eq_one_iff _).mp h1
  simp only [BitVec.sle, BitVec.slt, decide_eq_true_eq] at h0' h1'
  simp at h0' h1'
  have := BitVec.toInt_eq_toNat_cond w
  split at this <;> omega

/-- Where `rows_in_range` is all ones, each of the eight words that the kernel reads is a row of the keys. -/
theorem words_lt {F : FTy → Type} [FloatOps F] (i : IVec Cert.Pre_rows_in_range.S1x128 32) (k : FVec F Cert.Pre_rows_in_range.S65536x768 .f32)
    (h : Cert.Pre_rows_in_range.fn (F := F) i k = fun _ => 1#1) (b : Fin 8) : (word i b).toNat < 65536 := by
  have : Subsingleton Cert.Pre_rows_in_range.S_.Idx := ⟨fun a b => funext fun x => x.elim0⟩
  have e := congrFun h (fun x => x.elim0)
  have hb := Host.reduce_andi_all _ _ _ _ _ e (ix2 0 ⟨b.val, by omega⟩)
  have hb' := IntOp.andi_eq_one.mp hb
  exact toNat_lt_of_signed _ hb'.1 hb'.2

/-- A column of eight words holds at `(b, 0)` what the row it is broadcast from holds at `b`. -/
theorem column_apply {α : Type} (x : Cert.RowsReference.S8.Idx → α)
    (h : Cert.RowsReference.S8.BroadcastsInDim Cert.RowsReference.S8x1 ![0]) (b : Fin 8) :
    broadcastInDim Cert.RowsReference.S8x1 ![0] h x (ix2 b 0) = x (ix1 b) :=
  congrArg x (by funext a; fin_cases a; rfl)

/-- The reference's index array, at row `b`, is the word at `(0, b)` of the index operand: the word is not negative, so
    that the wrap-around of negative indices leaves it. -/
theorem reference_word (fi : IVec Cert.RowsReference.S1x128 32) (hr : ∀ b : Fin 8, (word fi b).toNat < 65536) (b : Fin 8)
    (hs : Cert.RowsReference.S1x128.Slices ![0, 0] Cert.RowsReference.S1x8)
    (hc : Cert.RowsReference.S1x8.ShapeCasts Cert.RowsReference.S8)
    (z n : IVec Cert.RowsReference.S8 32) (hz : ∀ j, z j = 0#32) :
    select (cmpi .slt (shapeCast Cert.RowsReference.S8 (extractStridedSlice Cert.RowsReference.S1x8 ![0, 0] fi hs) hc) z) n
      (shapeCast Cert.RowsReference.S8 (extractStridedSlice Cert.RowsReference.S1x8 ![0, 0] fi hs) hc) (ix1 b)
      = BitVec.ofNat 32 (word fi b).toNat := by
  have e : shapeCast Cert.RowsReference.S8 (extractStridedSlice Cert.RowsReference.S1x8 ![0, 0] fi hs) hc (ix1 b) = word fi b := by
    pointwise
    exact congrArg fi (by funext a; fin_cases a <;> rfl)
  rw [BitVec.ofNat_toNat, BitVec.setWidth_eq]
  show (if IntOp.cmpi .slt (shapeCast Cert.RowsReference.S8 (extractStridedSlice Cert.RowsReference.S1x8 ![0, 0] fi hs) hc (ix1 b)) (z (ix1 b)) = 1#1
    then n (ix1 b) else shapeCast Cert.RowsReference.S8 (extractStridedSlice Cert.RowsReference.S1x8 ![0, 0] fi hs) hc (ix1 b)) = _
  rw [e, hz, if_neg]
  intro h
  have h' : (word fi b).slt 0#32 = true := (StableHlo.Predicate.ofBool_eq_one_iff _).mp h
  have hb := hr b
  simp only [BitVec.slt, decide_eq_true_eq] at h'
  have := BitVec.toInt_eq_toNat_cond (word fi b)
  simp at h'
  split at this <;> omega

/-- `quiescent_Rows` (Defs.lean): the run with the result dropped. -/
theorem frame_Rows : Cert.quiescent_Rows := fun m g hpre =>
  θ_run_mono (run_main (F := Bits) m g fun d b => words_lt _ _ (hpre d) b) fun _ h => ⟨fun c => (h.1 c).2, h.2⟩

/-- The reference has no semaphore. -/
theorem no_semaphore : SemLoc Cert.RowsReference.sig → False := by decide

/-- `quiescent_RowsReference` (Defs.lean): the reference is host operations alone, and has no semaphore. -/
theorem frame_RowsReference : Cert.quiescent_RowsReference := fun m g _ =>
  θ_run_mono (Cert.RowsReference.Value.run (F := Bits) m g) fun _ h => ⟨fun c => (h c).2, funext fun s => (no_semaphore s.2).elim⟩

/-- The same under `rows_in_range`. -/
theorem frame_RowsReference_pre : Cert.quiescent_RowsReference_pre_rows_in_range := fun m g _ => frame_RowsReference m g trivial

/-- `bitexact_Rows_RowsReference` (Defs.lean). -/
theorem bitexact_Rows : Cert.bitexact_Rows_RowsReference := by
  intro m g m' g' hpre hag
  have hr : ∀ d b, (word (m (iLoc d)) b).toNat < 65536 := fun d b => words_lt _ _ (hpre d) b
  refine ⟨fun c => out m hr c, θ_run_mono (run_main (F := Bits) m g hr) fun _ h => h.1, ?_⟩
  refine θ_run_mono (Cert.RowsReference.Value.run (F := Bits) m' g') fun _ h c => ⟨(h c).1.trans ?_, (h c).2⟩
  rw [(hag c).1, (hag c).2]
  funext j
  obtain ⟨b, y, rfl⟩ : ∃ (b : Fin 8) (y : Fin 768), j = ix2 b y := ⟨j 0, j 1, by funext a; fin_cases a <;> rfl⟩
  refine Routing.gather_row _ rfl rfl rfl rfl rfl _ _ b y ⟨(word (m (iLoc c)) b).toNat, hr c b⟩ ?_ (by decide)
  exact (column_apply _ _ b).trans (reference_word (m (iLoc c)) (hr c) b _ _ _ _ (fun _ => rfl))

end Cert.Proof.RowsRun

end
-- ==== Proof.Whole.Retrieve.lean ====
module

public import proofs.«01_k».proof.KernelIdeal
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Ring
public import Idealize.ShloMosaic.Lib.Tactic
public import Idealize.ShloMosaic.Lib.ValueIdxCore

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix2)

variable {F : FTy → Type}

/-! ## The resource algebra: the launch's handshakes beside the copies' counters -/

abbrev UH : Type := URounds (GSem nD τ sig) ℕ
abbrev UU : Type := UH × (UR sig nD τ × Counters)

local notation "𝕄" => MT nD τ sig (HIx 1) (Elt F) ℕ UU ℕ

abbrev 𝒱₀ : Variants := Variants.none

local notation "iW" => (Memref.whole Cert.KernelIdeal.main_v3_1_scs : Memref Cert.KernelIdeal.sig Kind.scScalar Space.hbm Cert.KernelIdeal.S1x128 EltTy.i32)
local notation "kW" => (Memref.whole Cert.KernelIdeal.main_arg1_scs : Memref Cert.KernelIdeal.sig Kind.scScalar Space.hbm Cert.KernelIdeal.S65536x768 EltTy.f32)
local notation "oW" => (Memref.whole Cert.KernelIdeal.main_v4_scs : Memref Cert.KernelIdeal.sig Kind.scScalar Space.hbm Cert.KernelIdeal.S8x768 EltTy.f32)
local notation "sW" => (Memref.whole Cert.KernelIdeal.cc1_scratch0 : Memref Cert.KernelIdeal.sig Kind.scScalar Space.smem Cert.KernelIdeal.S1x128 EltTy.i32)

variable [FloatOps F] (d : Dev nD)

def coordsS (c : Fin (grid1.bound 0)) : grid1.Coords := fun | 0 => c | ⟨_ + 1, h⟩ => absurd h (Nat.not_lt.2 (Nat.le_add_left _ _))

/-- SparseCore 0's sequencer thread. -/
abbrev S0 (h : 0 < grid1.bound 0) : Thread nD τ := S d ((⟨0, h⟩ : Fin (grid1.bound 0)).castLE hcore1)

variable (h : 0 < grid1.bound 0)

/-- The word the kernel reads from lane `b` of the index row. -/
abbrev word (fi : S1x128.Idx → BitVec 32) (b : Fin 8) : BitVec 32 := fi (ix2 0 ⟨b.val, by omega⟩)

omit [FloatOps F] in
theorem inb_src {n : Nat} (hn : n < 65536) : ∀ a, (![n, 0] : Fin 2 → Nat) a + S1x768.size a ≤ S65536x768.size a := by
  intro a; fin_cases a
  · show n + 1 ≤ 65536; omega
  · show 0 + 768 ≤ 768; omega
omit [FloatOps F] in
theorem inb_dst (b : Fin 8) : ∀ a, (![b.val, 0] : Fin 2 → Nat) a + S1x768.size a ≤ S8x768.size a := by
  have := b.isLt
  intro a; fin_cases a
  · show b.val + 1 ≤ 8; omega
  · show 0 + 768 ≤ 768; omega

omit [FloatOps F] in
theorem inb_lane (b : Fin 8) : ∀ a, (![0, b.val] : Fin 2 → Nat) a + S1x1.size a ≤ S1x128.size a := by
  have := b.isLt
  intro a; fin_cases a
  · show 0 + 1 ≤ 1; omega
  · show b.val + 1 ≤ 128; omega

/-- Row `n` of the keys, and row `b` of the result, as the copies address them. -/
def srcM (n : Nat) (hn : n < 65536) : Memref sig .scScalar .hbm S1x768 .f32 :=
  (kW).slice (Rect.unit (s := S65536x768) ![n, 0] S1x768.size (inb_src hn)) (fun _ => rfl)
def dstM (b : Fin 8) : Memref sig .scScalar .hbm S1x768 .f32 :=
  (oW).slice (Rect.unit (s := S8x768) ![b.val, 0] S1x768.size (inb_dst b)) (fun _ => rfl)

/-- The share of the keys that copy `b` reads at. -/
abbrev tok (b : Fin 8) : PosShare TreeShare := Transfers.shareTok fullShare 8 b

variable {d h}
variable (fi : S1x128.Idx → BitVec 32) (hr : ∀ b : Fin 8, (word fi b).toNat < 65536)
variable (fk : (b : Fin 8) → Buf (Elt F) ((srcM _ (hr b)).view.loc (S0 d h))) (fo : (b : Fin 8) → Buf (Elt F) ((dstM b).view.loc (S0 d h)))

/-- Row `b` of the result once its copy has landed. -/
abbrev landed (b : Fin 8) : Buf (Elt F) ((dstM b).view.loc (S0 d h)) :=
  (dstM b).view.writes (Elt F) (fo b) [⟨Rect.whole S1x768, ReadAs.same.apply ((srcM _ (hr b)).view.read (Elt F) (fk b))⟩]

abbrev srcP (b : Fin 8) : sProp 𝕄 :=
  (srcM _ (hr b)).view.loc (S0 d h) ↦[(srcM _ (hr b)).view.set]{tok b} fk b
abbrev dstP (b : Fin 8) (f : Buf (Elt F) ((dstM b).view.loc (S0 d h))) : sProp 𝕄 :=
  (dstM b).view.loc (S0 d h) ↦[(dstM b).view.set]{fullShare} f

/-- What copy `b` hands back: its row of the result filled, and its share of the row it read. -/
abbrev deliv (b : Fin 8) : sProp 𝕄 := iprop(dstP b (landed fi hr fk fo b) ∗ srcP fi hr fk b)

/-- One row copy's credit. -/
abbrev N : ℕ := (dstM 0).view.amount (SemLoc.dma (sig := sig) 9)

theorem chk1_of_lt (v : BitVec 32) (hv : v.toNat < 65536) : k1_chk1 v := ⟨inb_src hv, inb_src hv⟩
theorem chk2_of_lt (v : BitVec 32) (hv : v.toNat < 65536) : k1_chk2 v := ⟨inb_src hv, inb_src hv⟩
theorem chk3_of_lt (v : BitVec 32) (hv : v.toNat < 65536) : k1_chk3 v := ⟨inb_src hv, inb_src hv⟩
theorem chk4_of_lt (v : BitVec 32) (hv : v.toNat < 65536) : k1_chk4 v := ⟨inb_src hv, inb_src hv⟩
theorem chk5_of_lt (v : BitVec 32) (hv : v.toNat < 65536) : k1_chk5 v := ⟨inb_src hv, inb_src hv⟩
theorem chk6_of_lt (v : BitVec 32) (hv : v.toNat < 65536) : k1_chk6 v := ⟨inb_src hv, inb_src hv⟩
theorem chk7_of_lt (v : BitVec 32) (hv : v.toNat < 65536) : k1_chk7 v := ⟨inb_src hv, inb_src hv⟩
theorem chk8_of_lt (v : BitVec 32) (hv : v.toNat < 65536) : k1_chk8 v := inb_src hv

/-- The lane `b` of the scratch row, read after the index row has been copied over the whole of it. -/
theorem loaded (fs : Buf (Elt F) ((sW).view.loc (S0 d h))) (w : S1x128.Idx → BitVec 32) (b : Fin 8) :
    View.readAt (Elt F) (sW).view (Rect.unit (s := S1x128) ![0, b.val] S1x1.size (inb_lane b)).toLoadRect
      (View.write (Elt F) (sW).view fs w Finset.univ) (Shape.Idx.first (s := S1x1) (by decide)) = word w b := by
  simp
  rw [View.read_apply]
  refine congrArg w (funext fun a => ?_)
  fin_cases a <;> exact Fin.ext (by simp [View.whole, ix2, Shape.Idx.first])

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

variable (d h)

/-- One run of the kernel: with the index words in range it copies row `word b` of the keys to row `b` of the result. -/
theorem seq_run (O : CellTallies nD τ sig (HIx 1)) (W : Waits sig (HIx 1)) (fs : Buf (Elt F) ((sW).view.loc (S0 d h))) :
    (iprop(Transfers.MayWaits (S0 d h) (none : HIx 1) O
        ∗ ((iW).view.loc (S0 d h) ↦{fullShare} fi)
        ∗ bigSep Finset.univ (fun b => srcP (d := d) (h := h) fi hr fk b)
        ∗ bigSep Finset.univ (fun b => dstP (d := d) (h := h) b (fo b))
        ∗ ((sW).view.loc (S0 d h) ↦{fullShare} fs)
        ∗ semVal (S0 d h, SemLoc.dma (9 : DmaSem sig)) 0 ∗ semVal (S0 d h, SemLoc.dma (10 : DmaSem sig)) 0
        ∗ owes (S0 d h) O W) : sProp 𝕄)
      ⊢ wp frame (wpE (defs₀ (F := F)) 𝒱₀ (S0 d h) none) Set.univ
          (cc1_body (coordsS ⟨0, h⟩) iW (Memref.isWhole_whole _) kW (Memref.isWhole_whole _) oW (Memref.isWhole_whole _)
            sW (Memref.isWhole_whole _) cc1_scratch1 cc1_scoped0)
          fun _ => iprop(((iW).view.loc (S0 d h) ↦{fullShare} fi)
            ∗ bigSep Finset.univ (fun b => srcP (d := d) (h := h) fi hr fk b)
            ∗ bigSep Finset.univ (fun b => dstP (d := d) (h := h) b (landed fi hr fk fo b))
            ∗ (∃ g, (sW).view.loc (S0 d h) ↦{fullShare} g)
            ∗ semVal (S0 d h, SemLoc.dma (9 : DmaSem sig)) 0 ∗ semVal (S0 d h, SemLoc.dma (10 : DmaSem sig)) 0
            ∗ ∃ W', ⌜∀ p ∈ W', p ∈ W ∨ p.2 = none ∨ p.2 = some (0 : Fin 1)⌝ ∗ owes (S0 d h) O W') := by
  rw [bigSep_fin8 (fun b => srcP (d := d) (h := h) fi hr fk b), bigSep_fin8 (fun b => dstP (d := d) (h := h) b (fo b)),
    bigSep_fin8 (fun b => dstP (d := d) (h := h) b (landed fi hr fk fo b))]
  iintro ⟨#Hmw, Hi, ⟨Hk0, Hk1, Hk2, Hk3, Hk4, Hk5, Hk6, Hk7⟩, ⟨Ho0, Ho1, Ho2, Ho3, Ho4, Ho5, Ho6, Ho7⟩, Hs, Hc0, Hc1, HO⟩
  iapply (fupd_wp (Fr := Idealize.ShloMosaic.frame))
  imod (Transfers.batch_alloc' (Lvl := ℕ) (countersEmb (U := UU)) (S0 d h) (none : HIx 1) N (deliv (d := d) (h := h) fi hr fk fo) (sm := SemLoc.dma (9 : DmaSem sig)) (E := Set.univ)) $$ Hc0 with HB
  imodintro
  sl_unfold [cc1_body]
  sl_exec
  rw [show seq_run.sl.r d h fi fs = word fi 0 from loaded fs fi 0]
  iapply (wp_assume _ _ _ _ (chk1_of_lt _ (hr 0)))
  sl_exec
  rw [show seq_run.sl.r_1 d h fi fs = word fi 1 from loaded fs fi 1]
  iapply (wp_assume _ _ _ _ (chk2_of_lt _ (hr 1)))
  sl_exec
  rw [show seq_run.sl.r_2 d h fi fs = word fi 2 from loaded fs fi 2]
  iapply (wp_assume _ _ _ _ (chk3_of_lt _ (hr 2)))
  sl_exec
  rw [show seq_run.sl.r_3 d h fi fs = word fi 3 from loaded fs fi 3]
  iapply (wp_assume _ _ _ _ (chk4_of_lt _ (hr 3)))
  sl_exec
  rw [show seq_run.sl.r_4 d h fi fs = word fi 4 from loaded fs fi 4]
  iapply (wp_assume _ _ _ _ (chk5_of_lt _ (hr 4)))
  sl_exec
  rw [show seq_run.sl.r_10 d h fi fs = word fi 5 from loaded fs fi 5]
  iapply (wp_assume _ _ _ _ (chk6_of_lt _ (hr 5)))
  sl_exec
  rw [show seq_run.sl.r_11 d h fi fs = word fi 6 from loaded fs fi 6]
  iapply (wp_assume _ _ _ _ (chk7_of_lt _ (hr 6)))
  sl_exec
  rw [show seq_run.sl.r_12 d h fi fs = word fi 7 from loaded fs fi 7]
  iapply (wp_assume _ _ _ _ (chk8_of_lt _ (hr 7)))
  sl_exec
  rw [wp_ret]
  imodintro
  isplitl [Hi]; · iexact Hi
  isplitl [HB_src0 HB_src1 HB_src2 HB_src3 HB_src4 HB_src5 HB_src6 HB_src7]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  isplitl [HB_dst0 HB_dst1 HB_dst2 HB_dst3 HB_dst4 HB_dst5 HB_dst6 HB_dst7]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  isplitl [Hs]; · iexists _; iexact Hs
  isplitl [HB]; · iexact HB
  isplitl [Hc1]; · iexact Hc1
  iexists _; isplitr
  rotate_left
  · iexact HO
  · ipureintro
    intro p _
    rcases p.2 with _ | q
    · exact .inr (.inl rfl)
    · exact .inr (.inr (congrArg some (Subsingleton.elim q 0)))

/-! ## The arrays whole -/

/-- The result: row `b` is row `word b` of the keys. -/
def gathered (fi : S1x128.Idx → BitVec 32) (hr : ∀ b : Fin 8, (word fi b).toNat < 65536)
    (f : S65536x768.Idx → Elt F .f32) : S8x768.Idx → Elt F .f32 :=
  fun i => f (ix2 ⟨(word fi (i 0)).toNat, hr (i 0)⟩ (i 1))

/-- Element `x` of a copied row, in the keys and in the result. -/
theorem src_emb (n : ℕ) (hn : n < 65536) (x : S1x768.Idx) : (srcM n hn).view.emb x = (ix2 ⟨n, hn⟩ (x 1) : S65536x768.Idx) := by
  have x0 : (x 0).val < 1 := (x 0).isLt
  refine funext fun a => ?_
  fin_cases a
  · exact Fin.ext (show n + 1 * (x 0).val = n by omega)
  · exact Fin.ext (show 0 + 1 * (x 1).val = (x 1).val by omega)

theorem dst_emb (b : Fin 8) (x : S1x768.Idx) : (dstM b).view.emb x = (ix2 b (x 1) : S8x768.Idx) := by
  have x0 : (x 0).val < 1 := (x 0).isLt
  refine funext fun a => ?_
  fin_cases a
  · exact Fin.ext (show b.val + 1 * (x 0).val = b.val by omega)
  · exact Fin.ext (show 0 + 1 * (x 1).val = (x 1).val by omega)

omit [FloatOps F] in
theorem landed_emb (fk : S65536x768.Idx → Elt F .f32) (fo : S8x768.Idx → Elt F .f32) (b : Fin 8) (x : S1x768.Idx) :
    landed (d := d) (h := h) fi hr (fun _ => fk) (fun _ => fo) b ((dstM b).view.emb x) = fk ((srcM _ (hr b)).view.emb x) :=
  eq_of_heq ((cast_heq _ _).symm.trans (heq_of_eq (congrFun (View.read_writes_whole (Val := Elt F) (dstM b).view fo
    (ReadAs.same.apply ((srcM _ (hr b)).view.read (Elt F) fk))) x)))

omit [FloatOps F] in
theorem landed_eq (fk : S65536x768.Idx → Elt F .f32) (fo : S8x768.Idx → Elt F .f32) (b : Fin 8) :
    ∀ i ∈ (dstM b).view.set, landed (d := d) (h := h) fi hr (fun _ => fk) (fun _ => fo) b i = gathered fi hr fk i := by
  intro i hi
  obtain ⟨x, -, rfl⟩ := Finset.mem_map.mp hi
  refine (landed_emb (d := d) (h := h) fi hr fk fo b x).trans ?_
  rw [src_emb, dst_emb]
  rfl

/-- Row `b` of the result as a set of elements. -/
abbrev rowSet (b : Fin 8) : Finset S8x768.Idx := (Rect.unit (s := S8x768) ![b.val, 0] S1x768.size (inb_dst b)).set

omit [FloatOps F] in
theorem dstP_eq (b : Fin 8) (f : S8x768.Idx → Elt F .f32) :
    (dstP (d := d) (h := h) b f : sProp 𝕄) = ((oW).view.loc (S0 d h) ↦[rowSet b]{fullShare} f) := by
  unfold dstP
  rw [show (dstM b).view.set = rowSet b from View.set_slice_whole _ _]
  rfl

omit [FloatOps F] in
theorem dst_blocks (f : S8x768.Idx → Elt F .f32) :
    ((oW).view.loc (S0 d h) ↦{fullShare} f : sProp 𝕄) = bigSep Finset.univ fun b : Fin 8 => dstP (d := d) (h := h) b f := by
  simp only [dstP_eq]
  refine Ring.pointsTo_blocks (ℓ := (oW).view.loc (S0 d h)) (fun b : Fin 8 => rowSet b) ?_ ?_ f
  · intro b b' hb
    exact Ring.lead_disjoint (s := S8x768) (0 : Fin 2) 1 (fun b : Fin 8 => ![b.val, 0]) S1x768.size inb_dst
      (fun b => (Nat.one_mul _).symm) rfl b b' hb
  · exact Ring.lead_cover (s := S8x768) (0 : Fin 2) 1 (fun b : Fin 8 => ![b.val, 0]) S1x768.size inb_dst
      (fun b => (Nat.one_mul _).symm) (fun b a ha => by fin_cases a; exact absurd rfl ha; rfl) rfl
      (fun a ha => by fin_cases a; exact absurd rfl ha; rfl) rfl

/-- Row `n` of the keys as a set of elements. -/
abbrev keySet (d : Dev nD) (h : 0 < grid1.bound 0) (n : ℕ) (hn : n < 65536) : Finset (Idx ((kW).view.loc (S0 d h))) :=
  (Rect.unit (s := S65536x768) ![n, 0] S1x768.size (inb_src hn)).set

/-- What is left of the keys when each copy's share of its own row is set aside. -/
abbrev keysRest (fk : S65536x768.Idx → Elt F .f32) : sProp 𝕄 :=
  iprop(((kW).view.loc (S0 d h) ↦{Transfers.shareDrop fullShare 8} fk)
    ∗ bigSep Finset.univ fun b : Fin 8 => (kW).view.loc (S0 d h) ↦[Finset.univ \ keySet d h _ (hr b)]{tok b} fk)

omit [FloatOps F] in
theorem srcP_eq (b : Fin 8) (f : S65536x768.Idx → Elt F .f32) :
    (srcP (d := d) (h := h) fi hr (fun _ => f) b : sProp 𝕄)
      = ((kW).view.loc (S0 d h) ↦[keySet d h _ (hr b)]{tok b} f) := by
  unfold srcP
  rw [show (srcM _ (hr b)).view.set = keySet d h _ (hr b) from View.set_slice_whole _ _]
  rfl

omit [FloatOps F] in
theorem keys_split (f : S65536x768.Idx → Elt F .f32) :
    ((kW).view.loc (S0 d h) ↦{fullShare} f : sProp 𝕄)
      ⊣⊢ iprop(bigSep Finset.univ (fun b => srcP (d := d) (h := h) fi hr (fun _ => f) b) ∗ keysRest (d := d) (h := h) fi hr f) := by
  have e : (bigSep Finset.univ fun b : Fin 8 => ((kW).view.loc (S0 d h) ↦{tok b} f : sProp 𝕄))
      = iprop(bigSep Finset.univ (fun b => srcP (d := d) (h := h) fi hr (fun _ => f) b)
        ∗ bigSep Finset.univ fun b : Fin 8 => (kW).view.loc (S0 d h) ↦[Finset.univ \ keySet d h _ (hr b)]{tok b} f) := by
    rw [← bigSep_sep']
    refine congrArg (bigSep Finset.univ) (funext fun b => ?_)
    rw [srcP_eq]
    exact equiv_iff.mp ⟨(pointsTo_split_subset (Finset.subset_univ _)).1, (pointsTo_split_subset (Finset.subset_univ _)).2⟩
  constructor
  · refine (Transfers.pointsTo_toks_split fullShare 8).trans ?_
    rw [e]
    iintro ⟨Hd, Hs, Hr⟩
    isplitl [Hs]; · iexact Hs
    isplitl [Hd]; · iexact Hd
    iexact Hr
  · refine BIBase.Entails.trans ?_ (Transfers.pointsTo_toks_join fullShare 8)
    rw [e]
    iintro ⟨Hs, Hd, Hr⟩
    isplitl [Hd]; · iexact Hd
    isplitl [Hs]; · iexact Hs
    iexact Hr

/-- The same run with the arrays whole: the result ends as `gathered`, the index row and the keys as they were. -/
theorem seq_run_whole (O : CellTallies nD τ sig (HIx 1)) (W : Waits sig (HIx 1)) (fs : Buf (Elt F) ((sW).view.loc (S0 d h)))
    (f : S65536x768.Idx → Elt F .f32) (g : S8x768.Idx → Elt F .f32) :
    (iprop(Transfers.MayWaits (S0 d h) (none : HIx 1) O
        ∗ ((iW).view.loc (S0 d h) ↦{fullShare} fi) ∗ ((kW).view.loc (S0 d h) ↦{fullShare} f) ∗ ((oW).view.loc (S0 d h) ↦{fullShare} g)
        ∗ ((sW).view.loc (S0 d h) ↦{fullShare} fs)
        ∗ semVal (S0 d h, SemLoc.dma (9 : DmaSem sig)) 0 ∗ semVal (S0 d h, SemLoc.dma (10 : DmaSem sig)) 0
        ∗ owes (S0 d h) O W) : sProp 𝕄)
      ⊢ wp frame (wpE (defs₀ (F := F)) 𝒱₀ (S0 d h) none) Set.univ
          (cc1_body (coordsS ⟨0, h⟩) iW (Memref.isWhole_whole _) kW (Memref.isWhole_whole _) oW (Memref.isWhole_whole _)
            sW (Memref.isWhole_whole _) cc1_scratch1 cc1_scoped0)
          fun _ => iprop(((iW).view.loc (S0 d h) ↦{fullShare} fi) ∗ ((kW).view.loc (S0 d h) ↦{fullShare} f)
            ∗ ((oW).view.loc (S0 d h) ↦{fullShare} gathered fi hr f)
            ∗ (∃ g, (sW).view.loc (S0 d h) ↦{fullShare} g)
            ∗ semVal (S0 d h, SemLoc.dma (9 : DmaSem sig)) 0 ∗ semVal (S0 d h, SemLoc.dma (10 : DmaSem sig)) 0
            ∗ ∃ W', ⌜∀ p ∈ W', p ∈ W ∨ p.2 = none ∨ p.2 = some (0 : Fin 1)⌝ ∗ owes (S0 d h) O W') := by
  iintro ⟨#Hmw, Hi, Hk, Ho, Hs, Hc0, Hc1, HO⟩
  ihave Hk := (keys_split (d := d) (h := h) fi hr f).1 $$ Hk
  icases Hk with ⟨Hk, Hrest⟩
  iapply (wp_wand_r Idealize.ShloMosaic.frame (wpE (defs₀ (F := F)) 𝒱₀ (S0 d h) none) Set.univ)
  isplitl [Hi Hk Ho Hs Hc0 Hc1 HO]
  · iapply (seq_run d h fi hr (fun _ => f) (fun _ => g) O W fs)
    isplitr; · iexact Hmw
    isplitl [Hi]; · iexact Hi
    isplitl [Hk]; · iexact Hk
    isplitl [Ho]; · iapply (BIBase.Entails.of_eq (dst_blocks (d := d) (h := h) g)); iexact Ho
    isplitl [Hs]; · iexact Hs
    isplitl [Hc0]; · iexact Hc0
    isplitl [Hc1]; · iexact Hc1
    iexact HO
  · iintro %_ ⟨Hi, Hk, Ho, Hrem⟩
    isplitl [Hi]; · iexact Hi
    isplitl [Hk Hrest]
    · iapply (keys_split (d := d) (h := h) fi hr f).2
      isplitl [Hk]; · iexact Hk
      iexact Hrest
    isplitl [Ho]
    · rw [dst_blocks (d := d) (h := h) (gathered fi hr f)]
      rw [show (fun b : Fin 8 => (dstP (d := d) (h := h) b (gathered fi hr f) : sProp 𝕄))
        = fun b => dstP (d := d) (h := h) b (landed fi hr (fun _ => f) (fun _ => g) b) from
          funext fun b => (pointsTo_congr (landed_eq (d := d) (h := h) fi hr f g b)).symm]
      iexact Ho
    iexact Hrem

end Cert.Proof.Whole

end
-- ==== Proof.Whole.Scores.lean ====
module

public import proofs.«01_k».proof.Proof.Whole.Retrieve
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.FrameTail
public import Idealize.ShloMosaic.Lib.Pipeline.RegionArraysS
public import Idealize.ShloMosaic.Lib.VecWindow

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The test for the first block of keys, and the test for every later one, as the kernel computes them. -/
def condZero (i : grid0.Coords) : BitVec 1 := Scalar.cmpi .ne (Scalar.extui (Scalar.cmpi .eq (BitVec.ofNat 32 (i 0).val) 0#32) : BitVec 32) 0#32
def condPos (i : grid0.Coords) : BitVec 1 := Scalar.cmpi .ne (Scalar.extui (Scalar.cmpi .sgt (BitVec.ofNat 32 (i 0).val) 0#32) : BitVec 32) 0#32

/-- A load of a whole memref's own sizes reads the contents it is held at. -/
theorem load_unread {sp : Space} {s : Shape} {e : EltTy} {m : Memref sig .tc sp s e} (h : m.IsWhole) (x : s.Idx → Elt F e) {off : Fin s.rank → ℕ}
    (inb : ∀ a, off a + s.size a ≤ s.size a) : m.view.readAt (Elt F) (Rect.unit off s.size inb).toLoadRect (h.unread x) = x :=
  (View.readAt_full _ _ _).trans (h.read_unread x)

/-- The first block of keys: the gate is computed, the scaled mean query kept, and the running minimum and its block number start. -/
theorem scores_first (c : Dev nD) (i : grid0.Coords) (hc1 : k0_cond1 i = 1#1) (hc2 : condZero i = 1#1) (hc3 : ¬ condPos i = 1#1) (hc4 : ¬ k0_cond4 i = 1#1) (arg1 : Memref sig .tc .vmem S8x512x768 .f32) (harg1 : arg1.IsWhole) (arg2 : Memref sig .tc .vmem S768x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S1x1 .f32) (harg5 : arg5.IsWhole) (arg6 : Memref sig .tc .vmem S4096x768 .f32) (harg6 : arg6.IsWhole) (arg7 : Memref sig .tc .vmem S8x128 .f32) (harg7 : arg7.IsWhole) (arg8 : Memref sig .tc .vmem S1x128 .i32) (harg8 : arg8.IsWhole) (arg9 : Memref sig .tc .vmem S8x768 .f32) (harg9 : arg9.IsWhole) (arg10 : Memref sig .tc .vmem S8x4096 .f32) (harg10 : arg10.IsWhole) (arg11 : Memref sig .tc .vmem S8x4096 .i32) (harg11 : arg11.IsWhole)
    (x1 : Vec F S8x512x768 .f32) (x2 : Vec F S768x192 .f32) (x3 : Vec F S1x192 .f32) (x4 : Vec F S1x192 .f32) (x5 : Vec F S1x1 .f32) (x6 : Vec F S4096x768 .f32) (y8 : Vec F S1x128 .i32) (E : Set ℕ) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare y8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay3 x1 x2 x3 x4 x5) ∗ owns (c : Thread nD τ) arg8 fullShare y8 ∗ owns (c : Thread nD τ) arg9 fullShare (k0_pay2 x1) ∗ owns (c : Thread nD τ) arg10 fullShare (k0_pay5 x6 (k0_pay2 x1)) ∗ owns (c : Thread nD τ) arg11 fullShare k0_pay6) -∗ Q ⟨⟩))
      ⊢ wp frame (wpE (defs₀ (F := F)) Variants.none c none) E (cc0__scores_body i arg1 harg1 arg2 harg2 arg3 harg3 arg4 harg4 arg5 harg5 arg6 harg6 arg7 harg7 arg8 harg8 arg9 harg9 arg10 harg10 arg11 harg11) Q := by
  simp only [cc0__scores_body_eq_skeleton]; unfold cc0__scores_body_skel
  unfold condZero at hc2; unfold condPos at hc3
  simp only [dif_pos hc1, dif_pos hc2, dif_neg hc3, dif_neg hc4]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg8.eq_unread hf8
  sl_exec
  sl_step
  iapply Hk
  isplitl [H1]
  · iexists _; isplitr; swap; iexact H1; ipureintro
    exact harg1.read_unread _
  isplitl [H2]
  · iexists _; isplitr; swap; iexact H2; ipureintro
    exact harg2.read_unread _
  isplitl [H3]
  · iexists _; isplitr; swap; iexact H3; ipureintro
    exact harg3.read_unread _
  isplitl [H4]
  · iexists _; isplitr; swap; iexact H4; ipureintro
    exact harg4.read_unread _
  isplitl [H5]
  · iexists _; isplitr; swap; iexact H5; ipureintro
    exact harg5.read_unread _
  isplitl [H6]
  · iexists _; isplitr; swap; iexact H6; ipureintro
    exact harg6.read_unread _
  isplitl [H7]
  · iexists _; isplitr; swap; iexact H7; ipureintro
    refine (View.read_writes_full _ _ _ _ _).trans ?_
    exact congr (congr (congr (congr (congrArg k0_pay3 (load_unread harg1 x1 _)) (load_unread harg2 x2 _)) (load_unread harg3 x3 _)) (load_unread harg4 x4 _)) (load_unread harg5 x5 _)
  isplitl [H8]
  · iexists _; isplitr; swap; iexact H8; ipureintro
    exact harg8.read_unread _
  isplitl [H9]
  · iexists _; isplitr; swap; iexact H9; ipureintro
    refine (View.read_writes_full _ _ _ _ _).trans ?_
    exact congrArg k0_pay2 (load_unread harg1 x1 _)
  isplitl [H10]
  · iexists _; isplitr; swap; iexact H10; ipureintro
    refine (View.read_writes_full _ _ _ _ _).trans ?_
    exact congr (congrArg k0_pay5 (load_unread harg6 x6 _)) ((View.readAt_writes_full _ _ _ _ _ _).trans (congrArg k0_pay2 (load_unread harg1 x1 _)))
  · iexists _; isplitr; swap; iexact H11; ipureintro
    refine (View.read_writes_full _ _ _ _ _).trans ?_
    rfl

/-- A block between the first and the last: the running minimum and its block number are updated. -/
theorem scores_mid (c : Dev nD) (i : grid0.Coords) (hc1 : ¬ k0_cond1 i = 1#1) (hc2 : ¬ condZero i = 1#1) (hc3 : condPos i = 1#1) (hc4 : ¬ k0_cond4 i = 1#1) (arg1 : Memref sig .tc .vmem S8x512x768 .f32) (harg1 : arg1.IsWhole) (arg2 : Memref sig .tc .vmem S768x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S1x1 .f32) (harg5 : arg5.IsWhole) (arg6 : Memref sig .tc .vmem S4096x768 .f32) (harg6 : arg6.IsWhole) (arg7 : Memref sig .tc .vmem S8x128 .f32) (harg7 : arg7.IsWhole) (arg8 : Memref sig .tc .vmem S1x128 .i32) (harg8 : arg8.IsWhole) (arg9 : Memref sig .tc .vmem S8x768 .f32) (harg9 : arg9.IsWhole) (arg10 : Memref sig .tc .vmem S8x4096 .f32) (harg10 : arg10.IsWhole) (arg11 : Memref sig .tc .vmem S8x4096 .i32) (harg11 : arg11.IsWhole)
    (x1 : Vec F S8x512x768 .f32) (x2 : Vec F S768x192 .f32) (x3 : Vec F S1x192 .f32) (x4 : Vec F S1x192 .f32) (x5 : Vec F S1x1 .f32) (x6 : Vec F S4096x768 .f32) (y7 : Vec F S8x128 .f32) (y8 : Vec F S1x128 .i32) (y9 : Vec F S8x768 .f32) (y10 : Vec F S8x4096 .f32) (y11 : Vec F S8x4096 .i32) (E : Set ℕ) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ owns (c : Thread nD τ) arg8 fullShare y8 ∗ owns (c : Thread nD τ) arg9 fullShare y9 ∗ owns (c : Thread nD τ) arg10 fullShare (k0_pay9 x6 y9 y10) ∗ owns (c : Thread nD τ) arg11 fullShare (k0_pay8 i x6 y9 y10 y11)) -∗ Q ⟨⟩))
      ⊢ wp frame (wpE (defs₀ (F := F)) Variants.none c none) E (cc0__scores_body i arg1 harg1 arg2 harg2 arg3 harg3 arg4 harg4 arg5 harg5 arg6 harg6 arg7 harg7 arg8 harg8 arg9 harg9 arg10 harg10 arg11 harg11) Q := by
  simp only [cc0__scores_body_eq_skeleton]; unfold cc0__scores_body_skel
  unfold condZero at hc2; unfold condPos at hc3
  simp only [dif_neg hc1, dif_neg hc2, dif_pos hc3, dif_neg hc4]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec
  sl_step
  iapply Hk
  isplitl [H1]
  · iexists _; isplitr; swap; iexact H1; ipureintro
    exact harg1.read_unread _
  isplitl [H2]
  · iexists _; isplitr; swap; iexact H2; ipureintro
    exact harg2.read_unread _
  isplitl [H3]
  · iexists _; isplitr; swap; iexact H3; ipureintro
    exact harg3.read_unread _
  isplitl [H4]
  · iexists _; isplitr; swap; iexact H4; ipureintro
    exact harg4.read_unread _
  isplitl [H5]
  · iexists _; isplitr; swap; iexact H5; ipureintro
    exact harg5.read_unread _
  isplitl [H6]
  · iexists _; isplitr; swap; iexact H6; ipureintro
    exact harg6.read_unread _
  isplitl [H7]
  · iexists _; isplitr; swap; iexact H7; ipureintro
    exact harg7.read_unread _
  isplitl [H8]
  · iexists _; isplitr; swap; iexact H8; ipureintro
    exact harg8.read_unread _
  isplitl [H9]
  · iexists _; isplitr; swap; iexact H9; ipureintro
    exact harg9.read_unread _
  isplitl [H10]
  · iexists _; isplitr; swap; iexact H10; ipureintro
    refine (View.read_writes_full _ _ _ _ _).trans ?_
    exact congr (congr (congrArg k0_pay9 (load_unread harg6 x6 _)) (load_unread harg9 y9 _)) (load_unread harg10 y10 _)
  · iexists _; isplitr; swap; iexact H11; ipureintro
    refine (View.read_writes_full _ _ _ _ _).trans ?_
    exact congr (congr (congr (congrArg (k0_pay8 i) (load_unread harg6 x6 _)) (load_unread harg9 y9 _)) (load_unread harg10 y10 _)) (load_unread harg11 y11 _)

/-- The last block: they are updated once more, and the row of indices is written. -/
theorem scores_last (c : Dev nD) (i : grid0.Coords) (hc1 : ¬ k0_cond1 i = 1#1) (hc2 : ¬ condZero i = 1#1) (hc3 : condPos i = 1#1) (hc4 : k0_cond4 i = 1#1) (arg1 : Memref sig .tc .vmem S8x512x768 .f32) (harg1 : arg1.IsWhole) (arg2 : Memref sig .tc .vmem S768x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S1x1 .f32) (harg5 : arg5.IsWhole) (arg6 : Memref sig .tc .vmem S4096x768 .f32) (harg6 : arg6.IsWhole) (arg7 : Memref sig .tc .vmem S8x128 .f32) (harg7 : arg7.IsWhole) (arg8 : Memref sig .tc .vmem S1x128 .i32) (harg8 : arg8.IsWhole) (arg9 : Memref sig .tc .vmem S8x768 .f32) (harg9 : arg9.IsWhole) (arg10 : Memref sig .tc .vmem S8x4096 .f32) (harg10 : arg10.IsWhole) (arg11 : Memref sig .tc .vmem S8x4096 .i32) (harg11 : arg11.IsWhole)
    (x1 : Vec F S8x512x768 .f32) (x2 : Vec F S768x192 .f32) (x3 : Vec F S1x192 .f32) (x4 : Vec F S1x192 .f32) (x5 : Vec F S1x1 .f32) (x6 : Vec F S4096x768 .f32) (y7 : Vec F S8x128 .f32) (y9 : Vec F S8x768 .f32) (y10 : Vec F S8x4096 .f32) (y11 : Vec F S8x4096 .i32) (E : Set ℕ) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ (∃ d, owns (c : Thread nD τ) arg8 fullShare d) ∗ owns (c : Thread nD τ) arg9 fullShare y9 ∗ owns (c : Thread nD τ) arg10 fullShare y10 ∗ owns (c : Thread nD τ) arg11 fullShare y11
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ owns (c : Thread nD τ) arg8 fullShare (k0_pay10 (k0_pay9 x6 y9 y10) (k0_pay8 i x6 y9 y10 y11)) ∗ owns (c : Thread nD τ) arg9 fullShare y9 ∗ owns (c : Thread nD τ) arg10 fullShare (k0_pay9 x6 y9 y10) ∗ owns (c : Thread nD τ) arg11 fullShare (k0_pay8 i x6 y9 y10 y11)) -∗ Q ⟨⟩))
      ⊢ wp frame (wpE (defs₀ (F := F)) Variants.none c none) E (cc0__scores_body i arg1 harg1 arg2 harg2 arg3 harg3 arg4 harg4 arg5 harg5 arg6 harg6 arg7 harg7 arg8 harg8 arg9 harg9 arg10 harg10 arg11 harg11) Q := by
  simp only [cc0__scores_body_eq_skeleton]; unfold cc0__scores_body_skel
  unfold condZero at hc2; unfold condPos at hc3
  simp only [dif_neg hc1, dif_neg hc2, dif_pos hc3, dif_pos hc4]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg9.eq_unread hf9
  obtain rfl := harg10.eq_unread hf10
  obtain rfl := harg11.eq_unread hf11
  sl_exec
  sl_step
  iapply Hk
  isplitl [H1]
  · iexists _; isplitr; swap; iexact H1; ipureintro
    exact harg1.read_unread _
  isplitl [H2]
  · iexists _; isplitr; swap; iexact H2; ipureintro
    exact harg2.read_unread _
  isplitl [H3]
  · iexists _; isplitr; swap; iexact H3; ipureintro
    exact harg3.read_unread _
  isplitl [H4]
  · iexists _; isplitr; swap; iexact H4; ipureintro
    exact harg4.read_unread _
  isplitl [H5]
  · iexists _; isplitr; swap; iexact H5; ipureintro
    exact harg5.read_unread _
  isplitl [H6]
  · iexists _; isplitr; swap; iexact H6; ipureintro
    exact harg6.read_unread _
  isplitl [H7]
  · iexists _; isplitr; swap; iexact H7; ipureintro
    exact harg7.read_unread _
  isplitl [H8]
  · iexists _; isplitr; swap; iexact H8; ipureintro
    refine (View.read_writes_full _ _ _ _ _).trans ?_
    exact congr (congrArg k0_pay10 ((View.readAt_writes_full _ _ _ _ _ _).trans (congr (congr (congrArg k0_pay9 (load_unread harg6 x6 _)) (load_unread harg9 y9 _)) (load_unread harg10 y10 _)))) ((View.readAt_writes_full _ _ _ _ _ _).trans (congr (congr (congr (congrArg (k0_pay8 i) (load_unread harg6 x6 _)) (load_unread harg9 y9 _)) (load_unread harg10 y10 _)) (load_unread harg11 y11 _)))
  isplitl [H9]
  · iexists _; isplitr; swap; iexact H9; ipureintro
    exact harg9.read_unread _
  isplitl [H10]
  · iexists _; isplitr; swap; iexact H10; ipureintro
    refine (View.read_writes_full _ _ _ _ _).trans ?_
    exact congr (congr (congrArg k0_pay9 (load_unread harg6 x6 _)) (load_unread harg9 y9 _)) (load_unread harg10 y10 _)
  · iexists _; isplitr; swap; iexact H11; ipureintro
    refine (View.read_writes_full _ _ _ _ _).trans ?_
    exact congr (congr (congr (congrArg (k0_pay8 i) (load_unread harg6 x6 _)) (load_unread harg9 y9 _)) (load_unread harg10 y10 _)) (load_unread harg11 y11 _)

end Cert.Proof.Whole

end
-- ==== Proof.Whole.Blend.lean ====
module

public import proofs.«01_k».proof.Proof.Whole.Scores
public import Idealize.ShloMosaic.Lib.Pointwise
public import Idealize.ShloMosaic.Lib.ValueLayout

@[expose] public section

set_option maxRecDepth 16384

noncomputable section

namespace Cert.Proof.Whole

open Cert.KernelIdeal Cert.KernelIdeal.Gen

open Idealize.ShloMosaic hiding ix1 ix2 ix3 ix4
open Idealize.ShloMosaic.TcCoe Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A hidden state moved towards a retrieved row by a gate. -/
def blendAt (w h r : F .f32) : F .f32 := FloatOps.addf h (FloatOps.mulf w (FloatOps.subf r h))

/-- What one grid point writes: the hidden states of one batch moved towards that batch's retrieved row by each of the eight gates. -/
def blended (i : grid2.Coords) (x1 : Vec F S8x128 .f32) (x2 : Vec F S1x512x768 .f32) (x3 : Vec F S8x768 .f32) : Vec F S8x1x512x768 .f32 := fun y =>
  blendAt (x1 (ix2 (y 0) (0 : Fin 128))) (x2 (ix3 (0 : Fin 1) (y 2) (y 3))) (x3 (ix2 (i 0) (y 3)))

/-- The row of retrieved keys a point loads is the point's own. -/
theorem off_eq (i : grid2.Coords) : k2_off1 i = ![(i 0).val, 0] := by
  have h : ∀ n : Fin 8, (![(Scalar.indexCast (Scalar.addi (Scalar.muli (BitVec.ofNat 32 n.val) 1#32) 0#32) : Index).toNat, 0] : Fin 2 → ℕ) = ![n.val, 0] := by decide
  exact h (i 0)

/-- One store of a block of one batch row, read back: the stored block on its row, the earlier contents off it. -/
theorem read_row (v : View sig .tc .vmem S8x1x512x768 .f32) (f : v.ty.Contents (Elt F)) (k : ℕ) (inb : ∀ a, (![k, 0, 0, 0] : Fin 4 → ℕ) a + S1x1x512x768.size a ≤ S8x1x512x768.size a)
    (w : Vec F S1x1x512x768 .f32) (L : List (View.Piece (Elt F) S8x1x512x768 .f32)) (y : S8x1x512x768.Idx) :
    v.read (Elt F) (v.writes (Elt F) f (⟨Rect.unit (s := S8x1x512x768) ![k, 0, 0, 0] S1x1x512x768.size inb, w⟩ :: L)) y
      = if (y 0).val = k then w (ix4 (0 : Fin 1) (0 : Fin 1) (y 2) (y 3)) else v.read (Elt F) (v.writes (Elt F) f L) y := by
  by_cases h : (y 0).val = k
  · rw [if_pos h]
    refine View.read_writes_cons_unit_of_mem v f inb w L y _ rfl fun a => ?_
    match a with
    | ⟨0, _⟩ => exact h
    | ⟨1, _⟩ => exact (show (y 1).val = 0 + 0 from by have := (y 1).isLt; change (y 1).val < 1 at this; omega)
    | ⟨2, _⟩ => exact (Nat.zero_add _).symm
    | ⟨3, _⟩ => exact (Nat.zero_add _).symm
  · rw [if_neg h]
    refine View.read_writes_cons_unit_of_not_mem v f inb w L y rfl (0 : Fin 4) ?_
    show (y 0).val < k ∨ k + 1 ≤ (y 0).val
    omega

theorem pay9_at (v0 : Vec F S8x1 .f32) (v2 : Vec F S1x512x768 .f32) (v7 : Vec F S1x768 .f32) (a : Fin 512) (b : Fin 768) :
    k2_pay9 v0 v2 v7 (ix4 (0 : Fin 1) (0 : Fin 1) a b) = blendAt (v0 (ix2 (0 : Fin 8) (0 : Fin 1))) (v2 (ix3 (0 : Fin 1) a b)) (v7 (ix2 (0 : Fin 1) b)) := by
  pointwise [k2_pay9, k2_pay6, k2_pay7, k2_pay8]
  rfl

theorem pay10_at (v0 : Vec F S8x1 .f32) (v2 : Vec F S1x512x768 .f32) (v7 : Vec F S1x768 .f32) (a : Fin 512) (b : Fin 768) :
    k2_pay10 v0 v2 v7 (ix4 (0 : Fin 1) (0 : Fin 1) a b) = blendAt (v0 (ix2 (1 : Fin 8) (0 : Fin 1))) (v2 (ix3 (0 : Fin 1) a b)) (v7 (ix2 (0 : Fin 1) b)) := by
  pointwise [k2_pay10, k2_pay6, k2_pay7, k2_pay8]
  rfl

theorem pay11_at (v0 : Vec F S8x1 .f32) (v2 : Vec F S1x512x768 .f32) (v7 : Vec F S1x768 .f32) (a : Fin 512) (b : Fin 768) :
    k2_pay11 v0 v2 v7 (ix4 (0 : Fin 1) (0 : Fin 1) a b) = blendAt (v0 (ix2 (2 : Fin 8) (0 : Fin 1))) (v2 (ix3 (0 : Fin 1) a b)) (v7 (ix2 (0 : Fin 1) b)) := by
  pointwise [k2_pay11, k2_pay6, k2_pay7, k2_pay8]
  rfl

theorem pay2_at (v0 : Vec F S8x1 .f32) (v2 : Vec F S1x512x768 .f32) (v7 : Vec F S1x768 .f32) (a : Fin 512) (b : Fin 768) :
    k2_pay2 (k2_pay6 v0) (k2_pay7 v2) (k2_pay8 v2 v7) (ix4 (0 : Fin 1) (0 : Fin 1) a b) = blendAt (v0 (ix2 (4 : Fin 8) (0 : Fin 1))) (v2 (ix3 (0 : Fin 1) a b)) (v7 (ix2 (0 : Fin 1) b)) := by
  pointwise [k2_pay2, k2_pay6, k2_pay7, k2_pay8]
  rfl

theorem pay3_at (v0 : Vec F S8x1 .f32) (v2 : Vec F S1x512x768 .f32) (v7 : Vec F S1x768 .f32) (a : Fin 512) (b : Fin 768) :
    k2_pay3 (k2_pay6 v0) (k2_pay7 v2) (k2_pay8 v2 v7) (ix4 (0 : Fin 1) (0 : Fin 1) a b) = blendAt (v0 (ix2 (5 : Fin 8) (0 : Fin 1))) (v2 (ix3 (0 : Fin 1) a b)) (v7 (ix2 (0 : Fin 1) b)) := by
  pointwise [k2_pay3, k2_pay6, k2_pay7, k2_pay8]
  rfl

theorem pay4_at (v0 : Vec F S8x1 .f32) (v2 : Vec F S1x512x768 .f32) (v7 : Vec F S1x768 .f32) (a : Fin 512) (b : Fin 768) :
    k2_pay4 (k2_pay6 v0) (k2_pay7 v2) (k2_pay8 v2 v7) (ix4 (0 : Fin 1) (0 : Fin 1) a b) = blendAt (v0 (ix2 (6 : Fin 8) (0 : Fin 1))) (v2 (ix3 (0 : Fin 1) a b)) (v7 (ix2 (0 : Fin 1) b)) := by
  pointwise [k2_pay4, k2_pay6, k2_pay7, k2_pay8]
  rfl

theorem pay5_at (v0 : Vec F S8x1 .f32) (v2 : Vec F S1x512x768 .f32) (v7 : Vec F S1x768 .f32) (a : Fin 512) (b : Fin 768) :
    k2_pay5 (k2_pay6 v0) (k2_pay7 v2) (k2_pay8 v2 v7) (ix4 (0 : Fin 1) (0 : Fin 1) a b) = blendAt (v0 (ix2 (7 : Fin 8) (0 : Fin 1))) (v2 (ix3 (0 : Fin 1) a b)) (v7 (ix2 (0 : Fin 1) b)) := by
  pointwise [k2_pay5, k2_pay6, k2_pay7, k2_pay8]
  rfl

theorem pay1_at (v0 : Vec F S8x1 .f32) (v2 : Vec F S1x512x768 .f32) (v7 : Vec F S1x768 .f32) (a : Fin 512) (b : Fin 768) :
    k2_pay1 (k2_pay7 v2) (k2_pay12 v0 v2 v7) (ix4 (0 : Fin 1) (0 : Fin 1) a b) = blendAt (v0 (ix2 (3 : Fin 8) (0 : Fin 1))) (v2 (ix3 (0 : Fin 1) a b)) (v7 (ix2 (0 : Fin 1) b)) := by
  pointwise [k2_pay1, k2_pay12, k2_pay6, k2_pay7, k2_pay8]
  rfl

/-- The eight stores of a point, read back: the blended block. -/
theorem read_blended (v : View sig .tc .vmem S8x1x512x768 .f32) (f : v.ty.Contents (Elt F)) (i : grid2.Coords) (v0 : Vec F S8x1 .f32) (v2 : Vec F S1x512x768 .f32) (v7 : Vec F S1x768 .f32)
    (x1 : Vec F S8x128 .f32) (x3 : Vec F S8x768 .f32) (e0 : ∀ k : Fin 8, v0 (ix2 k (0 : Fin 1)) = x1 (ix2 k (0 : Fin 128))) (e7 : ∀ b : Fin 768, v7 (ix2 (0 : Fin 1) b) = x3 (ix2 (i 0) b)) :
    v.read (Elt F) (v.writes (Elt F) f [⟨Rect.unit (s := S8x1x512x768) ![7, 0, 0, 0] S1x1x512x768.size inb_S8x1x512x768_S1x1x512x768_7_0_0_0, k2_pay5 (k2_pay6 v0) (k2_pay7 v2) (k2_pay8 v2 v7)⟩,
        ⟨Rect.unit (s := S8x1x512x768) ![6, 0, 0, 0] S1x1x512x768.size inb_S8x1x512x768_S1x1x512x768_6_0_0_0, k2_pay4 (k2_pay6 v0) (k2_pay7 v2) (k2_pay8 v2 v7)⟩,
        ⟨Rect.unit (s := S8x1x512x768) ![5, 0, 0, 0] S1x1x512x768.size inb_S8x1x512x768_S1x1x512x768_5_0_0_0, k2_pay3 (k2_pay6 v0) (k2_pay7 v2) (k2_pay8 v2 v7)⟩,
        ⟨Rect.unit (s := S8x1x512x768) ![4, 0, 0, 0] S1x1x512x768.size inb_S8x1x512x768_S1x1x512x768_4_0_0_0, k2_pay2 (k2_pay6 v0) (k2_pay7 v2) (k2_pay8 v2 v7)⟩,
        ⟨Rect.unit (s := S8x1x512x768) ![3, 0, 0, 0] S1x1x512x768.size inb_S8x1x512x768_S1x1x512x768_3_0_0_0, k2_pay1 (k2_pay7 v2) (k2_pay12 v0 v2 v7)⟩,
        ⟨Rect.unit (s := S8x1x512x768) ![2, 0, 0, 0] S1x1x512x768.size inb_S8x1x512x768_S1x1x512x768_2_0_0_0, k2_pay11 v0 v2 v7⟩,
        ⟨Rect.unit (s := S8x1x512x768) ![1, 0, 0, 0] S1x1x512x768.size inb_S8x1x512x768_S1x1x512x768_1_0_0_0, k2_pay10 v0 v2 v7⟩,
        ⟨Rect.unit (s := S8x1x512x768) ![0, 0, 0, 0] S1x1x512x768.size inb_S8x1x512x768_S1x1x512x768_0_0_0_0, k2_pay9 v0 v2 v7⟩]) = blended i x1 v2 x3 := by
  funext y
  have hy : (y 0).val < 8 := (y 0).isLt
  have key : ∀ k : Fin 8, (y 0).val = k.val → blendAt (v0 (ix2 k (0 : Fin 1))) (v2 (ix3 (0 : Fin 1) (y 2) (y 3))) (v7 (ix2 (0 : Fin 1) (y 3))) = blended i x1 v2 x3 y := fun k hk => by
    have hk' : k = y 0 := Fin.ext hk.symm
    subst hk'
    exact congr (congrArg (fun w => blendAt w (v2 (ix3 (0 : Fin 1) (y 2) (y 3)))) (e0 (y 0))) (e7 (y 3))
  refine (read_row v f 7 _ _ _ y).trans ?_
  by_cases h7 : (y 0).val = 7
  · rw [if_pos h7]; exact (pay5_at v0 v2 v7 (y 2) (y 3)).trans (key 7 h7)
  rw [if_neg h7]
  refine (read_row v f 6 _ _ _ y).trans ?_
  by_cases h6 : (y 0).val = 6
  · rw [if_pos h6]; exact (pay4_at v0 v2 v7 (y 2) (y 3)).trans (key 6 h6)
  rw [if_neg h6]
  refine (read_row v f 5 _ _ _ y).trans ?_
  by_cases h5 : (y 0).val = 5
  · rw [if_pos h5]; exact (pay3_at v0 v2 v7 (y 2) (y 3)).trans (key 5 h5)
  rw [if_neg h5]
  refine (read_row v f 4 _ _ _ y).trans ?_
  by_cases h4 : (y 0).val = 4
  · rw [if_pos h4]; exact (pay2_at v0 v2 v7 (y 2) (y 3)).trans (key 4 h4)
  rw [if_neg h4]
  refine (read_row v f 3 _ _ _ y).trans ?_
  by_cases h3 : (y 0).val = 3
  · rw [if_pos h3]; exact (pay1_at v0 v2 v7 (y 2) (y 3)).trans (key 3 h3)
  rw [if_neg h3]
  refine (read_row v f 2 _ _ _ y).trans ?_
  by_cases h2 : (y 0).val = 2
  · rw [if_pos h2]; exact (pay11_at v0 v2 v7 (y 2) (y 3)).trans (key 2 h2)
  rw [if_neg h2]
  refine (read_row v f 1 _ _ _ y).trans ?_
  by_cases h1 : (y 0).val = 1
  · rw [if_pos h1]; exact (pay10_at v0 v2 v7 (y 2) (y 3)).trans (key 1 h1)
  rw [if_neg h1]
  refine (read_row v f 0 _ _ _ y).trans ?_
  by_cases h0 : (y 0).val = 0
  · rw [if_pos h0]; exact (pay9_at v0 v2 v7 (y 2) (y 3)).trans (key 0 h0)
  rw [if_neg h0]
  omega

/-- One grid point of the last call: from its three blocks it leaves the blended block. -/
theorem blend_run (c : Dev nD) (i : grid2.Coords) (arg1 : Memref sig .tc .vmem S8x128 .f32) (harg1 : arg1.IsWhole) (arg2 : Memref sig .tc .vmem S1x512x768 .f32) (harg2 : arg2.IsWhole) (arg3 : Memref sig .tc .vmem S8x768 .f32) (harg3 : arg3.IsWhole) (arg4 : Memref sig .tc .vmem S8x1x512x768 .f32) (harg4 : arg4.IsWhole)
    (x1 : Vec F S8x128 .f32) (x2 : Vec F S1x512x768 .f32) (x3 : Vec F S8x768 .f32) (E : Set ℕ) (Q : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg1 fullShare x1 ∗ owns (c : Thread nD τ) arg2 fullShare x2 ∗ owns (c : Thread nD τ) arg3 fullShare x3 ∗ owns (c : Thread nD τ) arg4 fullShare (blended i x1 x2 x3)) -∗ Q ⟨⟩))
      ⊢ wp frame (wpE (defs₀ (F := F)) Variants.none c none) E (cc2__fuse_body i arg1 harg1 arg2 harg2 arg3 harg3 arg4 harg4) Q := by
  simp only [cc2__fuse_body_eq_skeleton]; unfold cc2__fuse_body_skel
  simp only [k2_part1_eq_skeleton]
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  have e0 : ∀ k : Fin 8, arg1.view.readAt (Elt F) (Rect.unit (s := S8x128) ![0, 0] S8x1.size inb_S8x128_S8x1_0_0).toLoadRect (harg1.unread x1) (ix2 k (0 : Fin 1)) = x1 (ix2 k (0 : Fin 128)) := fun k =>
    (congrFun (harg1.read_unread x1) _).trans (congrArg x1 (funext fun a => Fin.ext (match a with
      | ⟨0, _⟩ => (show 0 + 1 * k.val = k.val by omega)
      | ⟨1, _⟩ => rfl)))
  have e2 : arg2.view.readAt (Elt F) (Rect.unit (s := S1x512x768) ![0, 0, 0] S1x512x768.size inb_S1x512x768_S1x512x768_0_0_0).toLoadRect (harg2.unread x2) = x2 := load_unread harg2 x2 _
  have e7 : ∀ b : Fin 768, arg3.view.readAt (Elt F) (Rect.unit (s := S8x768) (k2_off1 i) S1x768.size (k2_off1_inb i)).toLoadRect (harg3.unread x3) (ix2 (0 : Fin 1) b) = x3 (ix2 (i 0) b) := fun b =>
    (congrFun (harg3.read_unread x3) _).trans (congrArg x3 (funext fun a => Fin.ext (match a with
      | ⟨0, _⟩ => (show k2_off1 i 0 + 1 * 0 = (i 0).val by rw [off_eq]; rfl)
      | ⟨1, _⟩ => (show k2_off1 i 1 + 1 * b.val = b.val by rw [off_eq]; show 0 + 1 * b.val = b.val; omega))))
  sl_exec
  sl_step
  iapply Hk
  isplitl [H1]
  · iexists _; isplitr; swap; iexact H1; ipureintro
    exact harg1.read_unread _
  isplitl [H2]
  · iexists _; isplitr; swap; iexact H2; ipureintro
    exact harg2.read_unread _
  isplitl [H3]
  · iexists _; isplitr; swap; iexact H3; ipureintro
    exact harg3.read_unread _
  iexists _; isplitr; swap; iexact H4; ipureintro
  exact read_blended _ _ i _ _ _ x1 x3 e0 e7

end Cert.Proof.Whole

end
-- ==== Proof.Whole.ScoresDat.lean ====
module

public import proofs.«01_k».proof.Proof.Whole.Scores

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ### Which case a block of keys is -/

theorem coord0 : ∀ t : Fin grid0.N, ((grid0.coords t) 0).val = t.val := by decide

theorem cond1_iff (i : grid0.Coords) : k0_cond1 i = 1#1 ↔ (i 0).val = 0 := by
  have h : ∀ n : Fin 16, Scalar.cmpi .ne (Scalar.extui (Scalar.cmpi .eq (BitVec.ofNat 32 n.val) 0#32) : BitVec 32) 0#32 = 1#1 ↔ n.val = 0 := by decide
  exact h (i 0)
theorem condZero_iff (i : grid0.Coords) : condZero i = 1#1 ↔ (i 0).val = 0 := by
  have h : ∀ n : Fin 16, Scalar.cmpi .ne (Scalar.extui (Scalar.cmpi .eq (BitVec.ofNat 32 n.val) 0#32) : BitVec 32) 0#32 = 1#1 ↔ n.val = 0 := by decide
  exact h (i 0)
theorem condPos_iff (i : grid0.Coords) : condPos i = 1#1 ↔ (i 0).val ≠ 0 := by
  have h : ∀ n : Fin 16, Scalar.cmpi .ne (Scalar.extui (Scalar.cmpi .sgt (BitVec.ofNat 32 n.val) 0#32) : BitVec 32) 0#32 = 1#1 ↔ n.val ≠ 0 := by decide
  exact h (i 0)
theorem cond4_iff (i : grid0.Coords) : k0_cond4 i = 1#1 ↔ (i 0).val = 15 := by
  have h : ∀ n : Fin 16, Scalar.cmpi .ne (Scalar.extui (Scalar.cmpi .eq (BitVec.ofNat 32 n.val) 15#32) : BitVec 32) 0#32 = 1#1 ↔ n.val = 15 := by decide
  exact h (i 0)

/-! ### What the call holds, block by block -/

/-- The contents of a window's block at a grid point, read off its array. -/
def blk0 (W : Valuation τ sig (Elt F)) (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))

/-- The first grid point. -/
abbrev z0 : Fin cfg0.N := ⟨0, by decide⟩
/-- The grid point of the `n`th block of keys. -/
abbrev pt0 (n : ℕ) : Fin cfg0.N := ⟨n % 16, by rw [show cfg0.N = 16 from N_0]; exact Nat.mod_lt _ (by decide)⟩

/-- The scaled mean query. -/
def query (W : Valuation τ sig (Elt F)) : Vec F S8x768 .f32 := k0_pay2 (blk0 W 0 z0)
/-- The gate. -/
def gate (W : Valuation τ sig (Elt F)) : Vec F S8x128 .f32 := k0_pay3 (blk0 W 0 z0) (blk0 W 1 z0) (blk0 W 2 z0) (blk0 W 3 z0) (blk0 W 4 z0)
/-- The running minimum of the scores after the `n`th block. -/
def minAt (W : Valuation τ sig (Elt F)) : ℕ → Vec F S8x4096 .f32
  | 0 => k0_pay5 (blk0 W 5 (pt0 0)) (query W)
  | n + 1 => k0_pay9 (blk0 W 5 (pt0 (n + 1))) (query W) (minAt W n)
/-- The block the running minimum was found in. -/
def tileAt (W : Valuation τ sig (Elt F)) : ℕ → Vec F S8x4096 .i32
  | 0 => k0_pay6
  | n + 1 => k0_pay8 (grid0.coords (pt0 (n + 1))) (blk0 W 5 (pt0 (n + 1))) (query W) (minAt W n) (tileAt W n)
/-- The row of indices of the closest keys. -/
def idxRow (W : Valuation τ sig (Elt F)) : Vec F S1x128 .i32 := k0_pay10 (minAt W 15) (tileAt W 15)

/-- The scratch buffers before grid point `n`: at anything at first, later at the scaled query, the running minimum and its block. -/
def scratchAt (W : Valuation τ sig (Elt F)) (c : Dev nD) : ℕ → sProp 𝕄
  | 0 => iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d))
  | n + 1 => iprop(owns (c : Thread nD τ) (Memref.whole cc0_scratch0) fullShare (query W) ∗ owns (c : Thread nD τ) (Memref.whole cc0_scratch1) fullShare (minAt W n)
      ∗ owns (c : Thread nD τ) (Memref.whole cc0_scratch2) fullShare (tileAt W n))

/-- The other call's staging buffers, at anything. -/
def others0 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The proof data of the first call: its arrays as it finds them; each input's buffer left at its block, the gate left at its value from the first
    point on, the index row at its value; the scratch buffers as `scratchAt`. -/
def dat0 (W : Valuation τ sig (Elt F)) (O : CellTallies nD τ sig (HIx 1)) (R : Set (SemLoc sig × HIx 1)) (c : Dev nD) : Dat τ (Elt F) (HIx 1) ℕ UU ℕ cfg0 c where
  A w := W (Proc.devRef .tc (Pipeline.arrRef spec0 w))
  after w t := match w with
    | ⟨0, _⟩ => blk0 W 0 t
    | ⟨1, _⟩ => blk0 W 1 t
    | ⟨2, _⟩ => blk0 W 2 t
    | ⟨3, _⟩ => blk0 W 3 t
    | ⟨4, _⟩ => blk0 W 4 t
    | ⟨5, _⟩ => blk0 W 5 t
    | ⟨6, _⟩ => gate W
    | ⟨7, _⟩ => idxRow W
  Φ t := iprop(scratchAt W c t.val ∗ others0 c)
  q _ := fullShare
  owed _ := O
  recorded _ := R

section
variable (W : Valuation τ sig (Elt F)) (O : CellTallies nD τ sig (HIx 1)) (R : Set (SemLoc sig × HIx 1)) (c : Dev nD)

theorem before0_0 (t : Fin cfg0.N) (d) : (dat0 W O R c).before 0 t d = blk0 W 0 t :=
  ((dat0 W O R c).before_in_eq_fetched 0 rfl (fun _ => rfl) (fun _ _ _ => rfl) (fun t => by unfold Dat.blockOf; dsimp only [dat0]; unfold blk0; rfl) t d).trans
    (by unfold Dat.fetched Dat.blockOf blk0; rfl)
theorem before0_1 (t : Fin cfg0.N) (d) : (dat0 W O R c).before 1 t d = blk0 W 1 t :=
  ((dat0 W O R c).before_in_eq_fetched 1 rfl (fun _ => rfl) (fun _ _ _ => rfl) (fun t => by unfold Dat.blockOf; dsimp only [dat0]; unfold blk0; rfl) t d).trans
    (by unfold Dat.fetched Dat.blockOf blk0; rfl)
theorem before0_2 (t : Fin cfg0.N) (d) : (dat0 W O R c).before 2 t d = blk0 W 2 t :=
  ((dat0 W O R c).before_in_eq_fetched 2 rfl (fun _ => rfl) (fun _ _ _ => rfl) (fun t => by unfold Dat.blockOf; dsimp only [dat0]; unfold blk0; rfl) t d).trans
    (by unfold Dat.fetched Dat.blockOf blk0; rfl)
theorem before0_3 (t : Fin cfg0.N) (d) : (dat0 W O R c).before 3 t d = blk0 W 3 t :=
  ((dat0 W O R c).before_in_eq_fetched 3 rfl (fun _ => rfl) (fun _ _ _ => rfl) (fun t => by unfold Dat.blockOf; dsimp only [dat0]; unfold blk0; rfl) t d).trans
    (by unfold Dat.fetched Dat.blockOf blk0; rfl)
theorem before0_4 (t : Fin cfg0.N) (d) : (dat0 W O R c).before 4 t d = blk0 W 4 t :=
  ((dat0 W O R c).before_in_eq_fetched 4 rfl (fun _ => rfl) (fun _ _ _ => rfl) (fun t => by unfold Dat.blockOf; dsimp only [dat0]; unfold blk0; rfl) t d).trans
    (by unfold Dat.fetched Dat.blockOf blk0; rfl)
theorem before0_5 (t : Fin cfg0.N) (d) : (dat0 W O R c).before 5 t d = blk0 W 5 t :=
  ((dat0 W O R c).before_in_eq_fetched 5 rfl (fun _ => rfl) (fun _ _ _ => rfl) (fun t => by unfold Dat.blockOf; dsimp only [dat0]; unfold blk0; rfl) t d).trans
    (by unfold Dat.fetched Dat.blockOf blk0; rfl)

theorem idle_zero (h : 0 < cfg0.N) : cfg0.idle 6 (cfg0.grid.coords ⟨0, h⟩) = false := by
  show (!(k0_cond1 (grid0.coords ⟨0, h⟩) == 1#1)) = false
  rw [Bool.not_eq_false', beq_iff_eq]
  exact (cond1_iff _).mpr (coord0 ⟨0, h⟩)

/-- Before every point but the first the gate's buffer holds the gate. -/
theorem before0_6 : ∀ (n : ℕ) (hn : n + 1 < cfg0.N) (d), (dat0 W O R c).before 6 ⟨n + 1, hn⟩ d = gate W
  | n, hn, d => by
    have h16 : cfg0.N = 16 := N_0
    rw [(dat0 W O R c).before_of_pos 6 ⟨n + 1, hn⟩ (Nat.succ_ne_zero n) rfl d]
    have hfl : (cfg0.win 6).flush ⟨n, Nat.lt_of_succ_lt hn⟩ = false := by
      rw [← Bool.not_eq_true, flush0_6]; show ¬ n % 16 = 15; omega
    show (if (cfg0.win 6).flush ⟨n, _⟩ = true then d else (dat0 W O R c).left 6 ⟨n, _⟩ d) = gate W
    rw [hfl, if_neg Bool.false_ne_true]
    unfold Dat.left
    match n, hn with
    | 0, hn =>
      have hi : cfg0.idle 6 (cfg0.grid.coords ⟨0, Nat.lt_of_succ_lt hn⟩) = false := idle_zero _
      rw [hi]; rfl
    | n + 1, hn =>
      have hi : cfg0.idle 6 (cfg0.grid.coords ⟨n + 1, Nat.lt_of_succ_lt hn⟩) = true := by
        show (!(k0_cond1 (grid0.coords ⟨n + 1, _⟩) == 1#1)) = true
        rw [Bool.not_eq_true', beq_eq_false_iff_ne]; intro h
        have := (cond1_iff _).mp h; rw [coord0] at this; exact Nat.succ_ne_zero n this
      rw [hi]; exact before0_6 n (Nat.lt_of_succ_lt hn) d

/-- What the body hands back of the gate's buffer and of the index row's: the contents it found where the point does not write them. -/
def post6 (t : Fin cfg0.N) : sProp 𝕄 :=
  match cfg0.idle 6 (cfg0.grid.coords t) with
  | true =>
    match (cfg0.win 6).flush t with
    | false => iprop(∃ d, owns (c : Thread nD τ) (st0_6 t) fullShare ((dat0 W O R c).before 6 t d))
    | true => owns (c : Thread nD τ) (st0_6 t) fullShare ((dat0 W O R c).after 6 t)
  | false => owns (c : Thread nD τ) (st0_6 t) fullShare ((dat0 W O R c).after 6 t)
def post7 (t : Fin cfg0.N) : sProp 𝕄 :=
  match cfg0.idle 7 (cfg0.grid.coords t) with
  | true =>
    match (cfg0.win 7).flush t with
    | false => iprop(∃ d, owns (c : Thread nD τ) (st0_7 t) fullShare ((dat0 W O R c).before 7 t d))
    | true => owns (c : Thread nD τ) (st0_7 t) fullShare ((dat0 W O R c).after 7 t)
  | false => owns (c : Thread nD τ) (st0_7 t) fullShare ((dat0 W O R c).after 7 t)

/-- The gate's buffer is handed back at the gate, at every point. -/
theorem post6_of (t : Fin cfg0.N) : owns (c : Thread nD τ) (st0_6 t) fullShare (gate W) ⊢ post6 W O R c t := by
  unfold post6
  cases hi : cfg0.idle 6 (cfg0.grid.coords t) with
  | false => exact .rfl
  | true =>
    cases hf : (cfg0.win 6).flush t with
    | true => exact .rfl
    | false =>
      obtain ⟨n, hn⟩ := t
      match n, hn with
      | 0, hn => exact absurd (hi.symm.trans (idle_zero hn)) (by decide)
      | n + 1, hn =>
        iintro H
        iexists (gate W)
        rw [before0_6 W O R c n hn]
        iexact H

/-- The index row's buffer, at a point before the last, is handed back as it was found; -/
theorem post7_keep (t : Fin cfg0.N) (h : t.val ≠ 15) (d) : owns (c : Thread nD τ) (st0_7 t) fullShare ((dat0 W O R c).before 7 t d) ⊢ post7 W O R c t := by
  have h16 : cfg0.N = 16 := N_0
  have hi : cfg0.idle 7 (cfg0.grid.coords t) = true := by
    show (!(k0_cond4 (grid0.coords t) == 1#1)) = true
    rw [Bool.not_eq_true', beq_eq_false_iff_ne]; intro h'
    have := (cond4_iff _).mp h'; rw [coord0] at this; exact h this
  have hf : (cfg0.win 7).flush t = false := by
    rw [← Bool.not_eq_true, flush0_7]; have := t.isLt; omega
  unfold post7
  rw [hi, hf]
  iintro H; iexists d; iexact H

/-- at the last, at the index row. -/
theorem post7_last (t : Fin cfg0.N) (h : t.val = 15) : owns (c : Thread nD τ) (st0_7 t) fullShare (idxRow W) ⊢ post7 W O R c t := by
  have hi : cfg0.idle 7 (cfg0.grid.coords t) = false := by
    show (!(k0_cond4 (grid0.coords t) == 1#1)) = false
    rw [Bool.not_eq_false', beq_iff_eq]
    exact (cond4_iff _).mpr ((coord0 t).trans h)
  unfold post7
  rw [hi]
  exact .rfl

/-- What the body is called with at a point, and what it returns. -/
def bodyPre0 (t : Fin cfg0.N) : sProp 𝕄 :=
  iprop((dat0 W O R c).Φ t.castSucc ∗ (dat0 W O R c).owesAt none t.castSucc
    ∗ (∃ d, owns (c : Thread nD τ) (st0_0 t) fullShare ((dat0 W O R c).before 0 t d))
    ∗ (∃ d, owns (c : Thread nD τ) (st0_1 t) fullShare ((dat0 W O R c).before 1 t d))
    ∗ (∃ d, owns (c : Thread nD τ) (st0_2 t) fullShare ((dat0 W O R c).before 2 t d))
    ∗ (∃ d, owns (c : Thread nD τ) (st0_3 t) fullShare ((dat0 W O R c).before 3 t d))
    ∗ (∃ d, owns (c : Thread nD τ) (st0_4 t) fullShare ((dat0 W O R c).before 4 t d))
    ∗ (∃ d, owns (c : Thread nD τ) (st0_5 t) fullShare ((dat0 W O R c).before 5 t d))
    ∗ (∃ d, owns (c : Thread nD τ) (st0_6 t) fullShare ((dat0 W O R c).before 6 t d))
    ∗ (∃ d, owns (c : Thread nD τ) (st0_7 t) fullShare ((dat0 W O R c).before 7 t d)))
def bodyPost0 (t : Fin cfg0.N) : sProp 𝕄 :=
  iprop((dat0 W O R c).Φ t.succ ∗ (dat0 W O R c).owesAt none t.succ
    ∗ owns (c : Thread nD τ) (st0_0 t) fullShare ((dat0 W O R c).after 0 t)
    ∗ owns (c : Thread nD τ) (st0_1 t) fullShare ((dat0 W O R c).after 1 t)
    ∗ owns (c : Thread nD τ) (st0_2 t) fullShare ((dat0 W O R c).after 2 t)
    ∗ owns (c : Thread nD τ) (st0_3 t) fullShare ((dat0 W O R c).after 3 t)
    ∗ owns (c : Thread nD τ) (st0_4 t) fullShare ((dat0 W O R c).after 4 t)
    ∗ owns (c : Thread nD τ) (st0_5 t) fullShare ((dat0 W O R c).after 5 t)
    ∗ post6 W O R c t ∗ post7 W O R c t)

theorem pt0_eq (n : ℕ) (hn : n < cfg0.N) : pt0 n = ⟨n, hn⟩ := Fin.ext (Nat.mod_eq_of_lt (lt_of_lt_of_eq hn N_0))

/-- The body at any point. -/
theorem sound0 (t : Fin cfg0.N) :
    bodyPre0 W O R c t ⊢ wp frame (wpE (defs₀ (F := F)) Variants.none c none) Set.univ (bodyAt0 t) (fun _ => bodyPost0 W O R c t) := by
  unfold bodyPre0 bodyPost0 bodyAt0
  simp only [before0_0, before0_1, before0_2, before0_3, before0_4, before0_5]
  rw [show (dat0 W O R c).owesAt none t.succ = (dat0 W O R c).owesAt none t.castSucc from rfl,
    show (dat0 W O R c).Φ t.castSucc = iprop(scratchAt W c t.val ∗ others0 c) from rfl,
    show (dat0 W O R c).Φ t.succ = iprop(scratchAt W c (t.val + 1) ∗ others0 c) from rfl]
  have h16 : cfg0.N = 16 := N_0
  obtain ⟨n, hn⟩ := t
  match n, hn with
  | 0, hn =>
    have hc : ((grid0.coords ⟨0, hn⟩) 0).val = 0 := coord0 ⟨0, hn⟩
    dsimp only [scratchAt]
    iintro ⟨⟨⟨H9, H10, H11⟩, Hr⟩, Ho, ⟨%d0, H1⟩, ⟨%d1, H2⟩, ⟨%d2, H3⟩, ⟨%d3, H4⟩, ⟨%d4, H5⟩, ⟨%d5, H6⟩, ⟨%d6, H7⟩, ⟨%d7, H8⟩⟩
    iapply (scores_first c (grid0.coords ⟨0, hn⟩) ((cond1_iff _).mpr hc) ((condZero_iff _).mpr hc) (fun h => (condPos_iff _).mp h hc)
      (fun h => absurd (hc.symm.trans ((cond4_iff _).mp h)) (by decide)) _ _ _ _ _ _ _ _ _ _ _ _ _ _ _ _ _ _ _ _ _ _
      (blk0 W 0 ⟨0, hn⟩) (blk0 W 1 ⟨0, hn⟩) (blk0 W 2 ⟨0, hn⟩) (blk0 W 3 ⟨0, hn⟩) (blk0 W 4 ⟨0, hn⟩) (blk0 W 5 ⟨0, hn⟩) ((dat0 W O R c).before 7 ⟨0, hn⟩ d7) Set.univ _)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H9 H10 H11 Hr]
    · isplitl [H9 H10 H11]
      · isplitl [H9]; · iexact H9
        isplitl [H10]; · iexact H10
        iexact H11
      iexact Hr
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]
    · iapply (post6_of W O R c ⟨0, hn⟩); iexact H7
    iapply (post7_keep W O R c ⟨0, hn⟩ (show (0 : ℕ) ≠ 15 by decide) d7); iexact H8
  | n + 1, hn =>
    have hc : ((grid0.coords ⟨n + 1, hn⟩) 0).val = n + 1 := coord0 ⟨n + 1, hn⟩
    have h1 : ¬ k0_cond1 (grid0.coords ⟨n + 1, hn⟩) = 1#1 := fun h => absurd (hc.symm.trans ((cond1_iff _).mp h)) (Nat.succ_ne_zero n)
    have h2 : ¬ condZero (grid0.coords ⟨n + 1, hn⟩) = 1#1 := fun h => absurd (hc.symm.trans ((condZero_iff _).mp h)) (Nat.succ_ne_zero n)
    have h3 : condPos (grid0.coords ⟨n + 1, hn⟩) = 1#1 := (condPos_iff _).mpr (by rw [hc]; exact Nat.succ_ne_zero n)
    have hM : minAt W (n + 1) = k0_pay9 (blk0 W 5 ⟨n + 1, hn⟩) (query W) (minAt W n) := by rw [minAt, pt0_eq (n + 1) hn]
    have hT : tileAt W (n + 1) = k0_pay8 (grid0.coords ⟨n + 1, hn⟩) (blk0 W 5 ⟨n + 1, hn⟩) (query W) (minAt W n) (tileAt W n) := by rw [tileAt, pt0_eq (n + 1) hn]
    simp only [before0_6]
    dsimp only [scratchAt]
    iintro ⟨⟨⟨H9, H10, H11⟩, Hr⟩, Ho, ⟨%d0, H1⟩, ⟨%d1, H2⟩, ⟨%d2, H3⟩, ⟨%d3, H4⟩, ⟨%d4, H5⟩, ⟨%d5, H6⟩, ⟨%d6, H7⟩, ⟨%d7, H8⟩⟩
    by_cases hl : n + 1 = 15
    · have h4 : k0_cond4 (grid0.coords ⟨n + 1, hn⟩) = 1#1 := (cond4_iff _).mpr (hc.trans hl)
      iapply (scores_last c (grid0.coords ⟨n + 1, hn⟩) h1 h2 h3 h4 _ _ _ _ _ _ _ _ _ _ _ _ _ _ _ _ _ _ _ _ _ _
        (blk0 W 0 ⟨n + 1, hn⟩) (blk0 W 1 ⟨n + 1, hn⟩) (blk0 W 2 ⟨n + 1, hn⟩) (blk0 W 3 ⟨n + 1, hn⟩) (blk0 W 4 ⟨n + 1, hn⟩) (blk0 W 5 ⟨n + 1, hn⟩)
        (gate W) (query W) (minAt W n) (tileAt W n) Set.univ _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexact H11
      iintro ⟨H1, H2, H3, H4, H5, H6, H7, H8, H9, H10, H11⟩
      rw [← hM, ← hT]
      isplitl [H9 H10 H11 Hr]
      · isplitl [H9 H10 H11]
        · isplitl [H9]; · iexact H9
          isplitl [H10]; · iexact H10
          iexact H11
        iexact Hr
      isplitl [Ho]; · iexact Ho
      isplitl [H1]; · iexact H1
      isplitl [H2]; · iexact H2
      isplitl [H3]; · iexact H3
      isplitl [H4]; · iexact H4
      isplitl [H5]; · iexact H5
      isplitl [H6]; · iexact H6
      isplitl [H7]
      · iapply (post6_of W O R c ⟨n + 1, hn⟩); iexact H7
      iapply (post7_last W O R c ⟨n + 1, hn⟩ hl)
      rw [show idxRow W = k0_pay10 (minAt W (n + 1)) (tileAt W (n + 1)) by rw [hl]; rfl]
      iexact H8
    · have h4 : ¬ k0_cond4 (grid0.coords ⟨n + 1, hn⟩) = 1#1 := fun h => hl (hc.symm.trans ((cond4_iff _).mp h))
      iapply (scores_mid c (grid0.coords ⟨n + 1, hn⟩) h1 h2 h3 h4 _ _ _ _ _ _ _ _ _ _ _ _ _ _ _ _ _ _ _ _ _ _
        (blk0 W 0 ⟨n + 1, hn⟩) (blk0 W 1 ⟨n + 1, hn⟩) (blk0 W 2 ⟨n + 1, hn⟩) (blk0 W 3 ⟨n + 1, hn⟩) (blk0 W 4 ⟨n + 1, hn⟩) (blk0 W 5 ⟨n + 1, hn⟩)
        (gate W) ((dat0 W O R c).before 7 ⟨n + 1, hn⟩ d7) (query W) (minAt W n) (tileAt W n) Set.univ _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iintro ⟨H1, H2, H3, H4, H5, H6, H7, H8, H9, H10, H11⟩
      rw [← hM, ← hT]
      isplitl [H9 H10 H11 Hr]
      · isplitl [H9 H10 H11]
        · isplitl [H9]; · iexact H9
          isplitl [H10]; · iexact H10
          iexact H11
        iexact Hr
      isplitl [Ho]; · iexact Ho
      isplitl [H1]; · iexact H1
      isplitl [H2]; · iexact H2
      isplitl [H3]; · iexact H3
      isplitl [H4]; · iexact H4
      isplitl [H5]; · iexact H5
      isplitl [H6]; · iexact H6
      isplitl [H7]
      · iapply (post6_of W O R c ⟨n + 1, hn⟩); iexact H7
      iapply (post7_keep W O R c ⟨n + 1, hn⟩ hl d7); iexact H8

/-- The body table's row at a point's slots is the body there. -/
theorem row0 (t : Fin cfg0.N) : defs₀ (F := F) .tc cfg0.body (cfg0.bodyArgs t (cfg0.slots t)) = bodyAt0 t := by
  rfl

/-- The body obligation of the first call. -/
theorem obligation0 : BodyObligation (dat0 W O R c) (defs₀ (F := F)) Variants.none none Set.univ := fun t => by
  rw [bigSep_W0, bigSep_W0, row0]
  exact triple_restated (sound0 W O R c t) rfl .rfl fun _ => .rfl

end

end Cert.Proof.Whole

end
-- ==== Proof.Whole.BlendDat.lean ====
module

public import proofs.«01_k».proof.Proof.Whole.Blend
public import proofs.«01_k».proof.Proof.Whole.ScoresDat

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The contents of a window's block at a grid point of the last call, read off its array. -/
def blk2 (W : Valuation τ sig (Elt F)) (w : Fin cfg2.W) (t : Fin cfg2.N) : ((cfg2.win w).xblock (cfg2.grid.coords t)).Idx → Elt F (cfg2.win w).elt :=
  ((cfg2.win w).blk t).view.read (Elt F) (W (Proc.devRef .tc (Pipeline.arrRef spec2 w)))

/-- What the last call writes at a grid point. -/
def blendBlk (W : Valuation τ sig (Elt F)) (t : Fin cfg2.N) : Vec F S8x1x512x768 .f32 := blended (grid2.coords t) (blk2 W 0 t) (blk2 W 1 t) (blk2 W 2 t)

/-- The proof data of the last call. -/
def dat2 (W : Valuation τ sig (Elt F)) (O : CellTallies nD τ sig (HIx 1)) (R : Set (SemLoc sig × HIx 1)) (c : Dev nD) : Dat τ (Elt F) (HIx 1) ℕ UU ℕ cfg2 c where
  A w := W (Proc.devRef .tc (Pipeline.arrRef spec2 w))
  after w t := match w with
    | ⟨0, _⟩ => blk2 W 0 t
    | ⟨1, _⟩ => blk2 W 1 t
    | ⟨2, _⟩ => blk2 W 2 t
    | ⟨3, _⟩ => blendBlk W t
  Φ _ := Pipeline.scopedRest spec2 c
  q _ := fullShare
  owed _ := O
  recorded _ := R

section
variable (W : Valuation τ sig (Elt F)) (O : CellTallies nD τ sig (HIx 1)) (R : Set (SemLoc sig × HIx 1)) (c : Dev nD)

theorem before2_0 (t : Fin cfg2.N) (d) : (dat2 W O R c).before 0 t d = blk2 W 0 t :=
  ((dat2 W O R c).before_in_eq_fetched 0 rfl (fun _ => rfl) (fun _ _ _ => rfl) (fun t => by unfold Dat.blockOf; dsimp only [dat2]; unfold blk2; rfl) t d).trans
    (by unfold Dat.fetched Dat.blockOf blk2; rfl)
theorem before2_1 (t : Fin cfg2.N) (d) : (dat2 W O R c).before 1 t d = blk2 W 1 t :=
  ((dat2 W O R c).before_in_eq_fetched 1 rfl (fun _ => rfl) (fun _ _ _ => rfl) (fun t => by unfold Dat.blockOf; dsimp only [dat2]; unfold blk2; rfl) t d).trans
    (by unfold Dat.fetched Dat.blockOf blk2; rfl)
theorem before2_2 (t : Fin cfg2.N) (d) : (dat2 W O R c).before 2 t d = blk2 W 2 t :=
  ((dat2 W O R c).before_in_eq_fetched 2 rfl (fun _ => rfl) (fun _ _ _ => rfl) (fun t => by unfold Dat.blockOf; dsimp only [dat2]; unfold blk2; rfl) t d).trans
    (by unfold Dat.fetched Dat.blockOf blk2; rfl)

/-- What the body is called with at a point, and what it returns. -/
def bodyPre2 (t : Fin cfg2.N) : sProp 𝕄 :=
  iprop((dat2 W O R c).Φ t.castSucc ∗ (dat2 W O R c).owesAt none t.castSucc
    ∗ (∃ d, owns (c : Thread nD τ) (st2_0 t) fullShare ((dat2 W O R c).before 0 t d))
    ∗ (∃ d, owns (c : Thread nD τ) (st2_1 t) fullShare ((dat2 W O R c).before 1 t d))
    ∗ (∃ d, owns (c : Thread nD τ) (st2_2 t) fullShare ((dat2 W O R c).before 2 t d))
    ∗ (∃ d, owns (c : Thread nD τ) (st2_3 t) fullShare ((dat2 W O R c).before 3 t d)))
def bodyPost2 (t : Fin cfg2.N) : sProp 𝕄 :=
  iprop((dat2 W O R c).Φ t.succ ∗ (dat2 W O R c).owesAt none t.succ
    ∗ owns (c : Thread nD τ) (st2_0 t) fullShare ((dat2 W O R c).after 0 t)
    ∗ owns (c : Thread nD τ) (st2_1 t) fullShare ((dat2 W O R c).after 1 t)
    ∗ owns (c : Thread nD τ) (st2_2 t) fullShare ((dat2 W O R c).after 2 t)
    ∗ owns (c : Thread nD τ) (st2_3 t) fullShare ((dat2 W O R c).after 3 t))

/-- The body at any point. -/
theorem sound2 (t : Fin cfg2.N) :
    bodyPre2 W O R c t ⊢ wp frame (wpE (defs₀ (F := F)) Variants.none c none) Set.univ (bodyAt2 t) (fun _ => bodyPost2 W O R c t) := by
  unfold bodyPre2 bodyPost2 bodyAt2
  simp only [before2_0, before2_1, before2_2]
  rw [show (dat2 W O R c).owesAt none t.succ = (dat2 W O R c).owesAt none t.castSucc from rfl,
    show (dat2 W O R c).Φ t.succ = (dat2 W O R c).Φ t.castSucc from rfl]
  iintro ⟨HΦ, Ho, ⟨%d0, H1⟩, ⟨%d1, H2⟩, ⟨%d2, H3⟩, ⟨%d3, H4⟩⟩
  iapply (blend_run c (grid2.coords t) _ _ _ _ _ _ _ _ (blk2 W 0 t) (blk2 W 1 t) (blk2 W 2 t) Set.univ _)
  isplitl [H1]; · iexact H1
  isplitl [H2]; · iexact H2
  isplitl [H3]; · iexact H3
  isplitl [H4]; · iexists _; iexact H4
  iintro ⟨H1, H2, H3, H4⟩
  isplitl [HΦ]; · iexact HΦ
  isplitl [Ho]; · iexact Ho
  isplitl [H1]; · iexact H1
  isplitl [H2]; · iexact H2
  isplitl [H3]; · iexact H3
  iexact H4

/-- The body table's row at a point's slots is the body there. -/
theorem row2 (t : Fin cfg2.N) : defs₀ (F := F) .tc cfg2.body (cfg2.bodyArgs t (cfg2.slots t)) = bodyAt2 t := by
  rfl

/-- The body obligation of the last call. -/
theorem obligation2 : BodyObligation (dat2 W O R c) (defs₀ (F := F)) Variants.none none Set.univ := fun t => by
  rw [bigSep_W2, bigSep_W2, row2]
  exact triple_restated (sound2 W O R c t) rfl .rfl fun _ => .rfl

end

end Cert.Proof.Whole

end
-- ==== Proof.Whole.Region.lean ====
module

public import proofs.«01_k».proof.Proof.Whole.BlendDat
public import Idealize.ShloMosaic.Lib.Pipeline.RegionArraysS
public import Idealize.ShloMosaic.Lib.Pipeline.FrameTail

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The two TensorCore calls as regions of the program

Either call is entered from its arrays held at some contents and from what the core owes, and left with its arrays at their final contents. What the core
owes does not change; the waits it has recorded stay within a bound at which the staging cells lie. -/

/-- No pipeline prefetches a table, so its admissible contents are the empty ones. -/
abbrev adm : (p : Fin 2) → (pcfgs (F := F) p).Adm := fun p => (cfgs p).toPCfg_adm

section
variable (W : Dev nD → Valuation τ sig (Elt F)) (O : Dev nD → CellTallies nD τ sig (HIx 1)) (R : Dev nD → Set (SemLoc sig × HIx 1))

/-- The proof data of the two calls. -/
def pd : (p : Fin 2) → (c : Dev nD) → Dat τ (Elt F) (HIx 1) ℕ UU ℕ (Pipeline.pin pcfgs (adm (F := F)) p) c
  | 0, c => dat0 (W c) (O c) (R c) c
  | 1, c => dat2 (W c) (O c) (R c) c

theorem pd_owed (p : Fin 2) (c : Dev nD) (t) : (pd W O R p c).owed t = O c := by
  match p with
  | 0 => rfl
  | 1 => rfl
theorem pd_recorded (p : Fin 2) (c : Dev nD) (t) : (pd W O R p c).recorded t = R c := by
  match p with
  | 0 => rfl
  | 1 => rfl
theorem pd_share (p : Fin 2) (c : Dev nD) (w) : (pd W O R p c).share w = fullShare := by
  match p with
  | 0 => exact ite_self fullShare
  | 1 => exact ite_self fullShare
theorem pd_start (p : Fin 2) (c : Dev nD) (w) : (pd W O R p c).arrAt w 0 = W c (Proc.devRef .tc (Pipeline.arrRef (Pipeline.pin pcfgs (adm (F := F)) p).spec w)) := by
  match p with
  | 0 => rfl
  | 1 => rfl

theorem pd_body (p : Fin 2) (c : Dev nD) : Pipeline.BodyObligationLoose (pd W O R p c) defs₀ Variants.none none Set.univ := by
  match p with
  | 0 => exact (obligation0 (W c) (O c) (R c) c).loose
  | 1 => exact (obligation2 (W c) (O c) (R c) c).loose

theorem pd_in (p : Fin 2) (c : Dev nD) : Pipeline.scopedRest (pcfgs (F := F) p).spec c ⊢ (pd W O R p c).Φ 0 := by
  match p with
  | 0 =>
    show Pipeline.scopedRest spec0 c ⊢ iprop(scratchAt (W c) c 0 ∗ others0 c)
    rw [scopedRest0_eq]
    dsimp only [scratchAt, others0]
    simp only [owns_whole]
    iintro ⟨H0, H1, H2, Hr⟩
    isplitl [H0 H1 H2]
    · isplitl [H0]; · iexact H0
      isplitl [H1]; · iexact H1
      iexact H2
    iexact Hr
  | 1 =>
    show Pipeline.scopedRest spec2 c ⊢ (dat2 (W c) (O c) (R c) c).Φ 0
    dsimp only [dat2]
    exact .rfl

theorem pd_out (p : Fin 2) (c : Dev nD) : (pd W O R p c).Φ (Fin.last (Pipeline.pin pcfgs (adm (F := F)) p).N) ⊢ Pipeline.scopedRest (pcfgs (F := F) p).spec c := by
  match p with
  | 0 =>
    show iprop(scratchAt (W c) c cfg0.N ∗ others0 c) ⊢ Pipeline.scopedRest spec0 c
    rw [scopedRest0_eq, show cfg0.N = 15 + 1 from N_0]
    dsimp only [scratchAt, others0]
    simp only [owns_whole]
    iintro ⟨⟨H0, H1, H2⟩, Hr⟩
    isplitl [H0]; · iexists _; iexact H0
    isplitl [H1]; · iexists _; iexact H1
    isplitl [H2]; · iexists _; iexact H2
    iexact Hr
  | 1 =>
    show (dat2 (W c) (O c) (R c) c).Φ (Fin.last cfg2.N) ⊢ Pipeline.scopedRest spec2 c
    dsimp only [dat2]
    exact .rfl

end

theorem kit (p : Fin 2) : Pipeline.PLaunchFacts (nD := nD) (τ := τ) (pcfgs (F := F)) p := by
  match p with
  | 0 => exact launch0.toP
  | 1 => exact launch2.toP

section
variable (W : Dev nD → Valuation τ sig (Elt F)) (O : Dev nD → CellTallies nD τ sig (HIx 1)) (R : Dev nD → Set (SemLoc sig × HIx 1))
  (L : GSem nD τ sig → Finset (HIx 1)) (lv : GSem nD τ sig → HIx 1 → ℕ) (b : Dev nD → ℕ)

/-- The arrays' contents after call `p`. -/
abbrev left (p : Fin 2) (c : Dev nD) : Valuation τ sig (Elt F) := Pipeline.afterRegion (pd W O R p c) (W c)

/-- Call `p` as a region of the program. -/
def seg (p : Fin 2) (hcut : Pipeline.LevelCut (pcfgs (F := F)) adm none L lv p O b)
    (hR : ∀ c, (Pipeline.pin pcfgs (adm (F := F)) p).waitPairs none ⊆ R c) :
    Pipeline.RegionSeg (pcfgs (F := F)) adm (pd W O R) none defs₀ Variants.none L lv p where
  win := (kit (F := F) p).to₀.win
  block_pos := (kit (F := F) p).to₀.block_pos
  stage_whole := (kit (F := F) p).to₀.stage_whole
  K := PEmpty
  osem k := k.elim
  ho := Pipeline.OwnSemFacts.none _
  hbody := pd_body W O R p
  hwaits c := Pipeline.cellsWaits_of_cut (Pipeline.pin pcfgs adm) (pd W O R) none p c (b c) (O c) (pd_owed W O R p c) (hcut.hι c) (hcut.hιb c) (hcut.hD c)
  pre c := iprop(StableHlo.held (c : Thread nD τ) (Pipeline.arrRefs (pcfgs (F := F) p).spec) (W c) ∗ Pipeline.owesWithin c (O c) (R c))
  post c := iprop(StableHlo.held (c : Thread nD τ) (Pipeline.arrRefs (pcfgs (F := F) p).spec) (left W O R p c) ∗ Pipeline.owesWithin c (O c) (R c))
  X _ := iprop(emp)
  Y _ := iprop(emp)
  Z _ := iprop(emp)
  hentry c := by
    rw [← Pipeline.arrays_held pcfgs adm (pd W O R) p (kit p) c (pd_share W O R p c) ((pd W O R p c).arrAt · 0) (W c) (pd_start W O R p c),
      Pipeline.ownSems0_none, Pipeline.prefHeld_of_none _ rfl]
    unfold Pipeline.Dat.owesAt Pipeline.Dat.bound
    rw [pd_owed, pd_recorded]
    iintro ⟨⟨Ha, HO⟩, -, -⟩
    imodintro
    isplitl [Ha]; · iexact Ha
    isplitr; · iempintro
    isplitl [HO]
    · iapply (Pipeline.owesWithin_mono c (O c) (Set.subset_union_left (s := R c) (t := _))); iexact HO
    isplitr <;> iempintro
  hin c := by
    iintro ⟨-, -, Hr⟩
    iapply (pd_in W O R p c); iexact Hr
  hout c := (pd_out W O R p c).trans (by
    rw [Pipeline.ownSems0_none]
    iintro Hr
    isplitr; · iempintro
    isplitr; · iempintro
    iexact Hr)
  hexit c := by
    rw [← Pipeline.arrays_held pcfgs adm (pd W O R) p (kit p) c (pd_share W O R p c) ((pd W O R p c).arrAt · (Pipeline.pin pcfgs (adm (F := F)) p).N) (left W O R p c)
      (fun w => (Pipeline.afterRegion_arr (pd W O R p c) (W c) (kit (F := F) p).win.arr_inj w).symm)]
    unfold Pipeline.Dat.owesAt Pipeline.Dat.bound
    rw [pd_owed, pd_recorded]
    iintro ⟨Ha, HO, -, -⟩
    imodintro
    isplitl [Ha]; · iexact Ha
    iapply (Pipeline.owesWithin_mono c (O c) (Set.union_subset (le_refl (R c)) (hR c))); iexact HO

end

end Cert.Proof.Whole

end
-- ==== Proof.Whole.Call.lean ====
module

public import proofs.«01_k».proof.Proof.Whole.Region

@[expose] public section

noncomputable section

namespace Cert.Proof.Whole

open Cert.KernelIdeal Cert.KernelIdeal.Gen

open Idealize.ShloMosaic hiding ix1 ix2 ix3 ix4
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix2)

variable {F : FTy → Type}

local notation "𝕄" => MT nD τ sig (HIx 1) (Elt F) ℕ UU ℕ
local notation "iW" => (Memref.whole Cert.KernelIdeal.main_v3_1_scs : Memref Cert.KernelIdeal.sig Kind.scScalar Space.hbm Cert.KernelIdeal.S1x128 EltTy.i32)
local notation "kW" => (Memref.whole Cert.KernelIdeal.main_arg1_scs : Memref Cert.KernelIdeal.sig Kind.scScalar Space.hbm Cert.KernelIdeal.S65536x768 EltTy.f32)
local notation "oW" => (Memref.whole Cert.KernelIdeal.main_v4_scs : Memref Cert.KernelIdeal.sig Kind.scScalar Space.hbm Cert.KernelIdeal.S8x768 EltTy.f32)
local notation "sW" => (Memref.whole Cert.KernelIdeal.cc1_scratch0 : Memref Cert.KernelIdeal.sig Kind.scScalar Space.smem Cert.KernelIdeal.S1x128 EltTy.i32)

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH (MT nD τ sig (HIx 1) (Elt F) ℕ UU ℕ) := embL

variable [FloatOps F]

abbrev iLoc (d : Dev nD) : Loc nD τ sig := (SparseCore.T d).loc main_v3_1
abbrev kLoc (d : Dev nD) : Loc nD τ sig := (SparseCore.T d).loc main_arg1
abbrev oLoc (d : Dev nD) : Loc nD τ sig := (SparseCore.T d).loc main_v4
abbrev sLoc (d : Dev nD) (c : Fin τ.nSC) : Loc nD τ sig := (S d c).loc cc1_scratch0

variable (fi : (d : Dev nD) → Buf (Elt F) (iLoc d)) (fk : (d : Dev nD) → Buf (Elt F) (kLoc d)) (fo : (d : Dev nD) → Buf (Elt F) (oLoc d))
variable (hr : ∀ (d : Dev nD) (b : Fin 8), (word (fi d) b).toNat < 65536)

/-- The result array once the kernel has run. -/
abbrev out (d : Dev nD) : Buf (Elt F) (oLoc d) := gathered (F := F) (fi d) (hr d) (fk d)

abbrev before (d : Dev nD) : sProp 𝕄 :=
  iprop((iLoc d ↦{fullShare} fi d) ∗ (kLoc d ↦{fullShare} fk d) ∗ oLoc d ↦{fullShare} fo d)
abbrev after (d : Dev nD) : sProp 𝕄 :=
  iprop((iLoc d ↦{fullShare} fi d) ∗ (kLoc d ↦{fullShare} fk d) ∗ oLoc d ↦{fullShare} out fi fk hr d)

/-- What the launch hands the SparseCore and takes back. -/
def P : (K (F := F)).Pay (nD := nD) (Val := Elt F) (Name := ℕ) (U := UU) where
  st := fun _ d _ => before fi fk fo d
  dn := fun _ d _ => after fi fk hr d
  go := fun _ _ _ _ => iprop(emp)
  td := fun _ _ _ _ => iprop(emp)
  x := fun _ _ => iprop(emp)

instance P_storable : (P (F := F) fi fk fo hr).IsStorable where
  st _ d c := by unfold P; infer_instance
  dn _ d c := by unfold P; infer_instance
  go _ d c i := by unfold P; infer_instance
  td _ d c i := by unfold P; infer_instance

section Body
variable (d : Dev nD)

abbrev dcell (c : Fin τ.nSC) (k : Fin 2) : GSem nD τ sig := (S d c, .dma (⟨9 + k.val, show 9 + k.val < 17 by omega⟩ : DmaSem sig))

theorem dcell_mem (c : Fin τ.nSC) (k : Fin 2) : dcell d c k ∈ ownCells (S d c) :=
  mem_ownCells.mpr ⟨rfl, (show ∀ s : DmaSem sig, (SemLoc.dma s : SemLoc sig).isScoped .scScalar = true by decide) _⟩

omit [FloatOps F] in
/-- The sequencer's own cells at zero: the two the body uses, and the rest. -/
theorem ownSems0_S (c : Fin τ.nSC) :
    (ownSems0 (S d c) : sProp 𝕄)
      = iprop((semVal (dcell d c 0) 0 ∗ semVal (dcell d c 1) 0)
          ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 2)) = {0, 1} by decide, SparseCore.bigSep_insert' (by decide), bigSep_singleton]

omit [FloatOps F] in
/-- The sequencer's own buffers: the scalar scratch, at some contents, and the rest. -/
theorem ownBufs_S (c : Fin τ.nSC) :
    (ownBufs (S d c) : sProp 𝕄)
      = iprop((∃ f, sLoc d c ↦{fullShare} f)
          ∗ bigSep ((ownRefs (τ := τ) (.scScalar c)).erase ((Proc.scScalar c).devRef cc1_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc1_scratch0)).mpr rfl)

omit [FloatOps F] in
theorem pts_i (c : Fin τ.nSC) (f : Buf (Elt F) (iLoc d)) :
    ((iW).view.loc (S d c) ↦{fullShare} f : sProp 𝕄) = iLoc d ↦{fullShare} f := by
  simp only [Memref.view_whole, View.set_whole]
omit [FloatOps F] in
theorem pts_k (c : Fin τ.nSC) (f : Buf (Elt F) (kLoc d)) :
    ((kW).view.loc (S d c) ↦{fullShare} f : sProp 𝕄) = kLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) (sLoc d c)) :
    ((sW).view.loc (S d c) ↦{fullShare} f : sProp 𝕄) = sLoc d c ↦{fullShare} f := by
  simp only [Memref.view_whole, View.set_whole]

/-- The kernel on SparseCore 0's sequencer, from what the launch hands it to what it hands back. -/
theorem body₀ (hF : (K (F := F)).Facts) (h : 0 < grid1.bound 0) (O : CellTallies nD τ sig (HIx 1)) (W : Waits sig (HIx 1)) (hO : ∀ g, O g none = 0) :
    iprop(levAts (K (F := F)).L (K (F := F)).lev ∗ emp ∗ before fi fk fo d
        ∗ scopedBufs (S0 d h) ∗ scopedSems0 (S0 d h) ∗ owes (S0 d h) O W)
      ⊢ wp frame (wpE (defs₀ (F := F)) 𝒱₀ (S0 d h) none) Set.univ
          (cc1_body (coordsS ⟨0, h⟩) iW (Memref.isWhole_whole _) kW (Memref.isWhole_whole _) oW (Memref.isWhole_whole _)
            sW (Memref.isWhole_whole _) cc1_scratch1 cc1_scoped0)
          fun _ => iprop(after fi fk hr d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨Hi, Hk, Ho⟩, ⟨⟨⟨%fs, Hs⟩, Hbufs⟩, Htiles⟩, ⟨⟨⟨Hc0, Hc1⟩, Hsems⟩, HtileSems⟩, HO⟩
  ihave Hmw := ((K (F := F)).mayWaits_none (thr := S0 d h) hO) $$ Hlv
  ihave Hi' := (Entails.of_eq (pts_i (F := F) d _ _).symm) $$ Hi
  ihave Hk' := (Entails.of_eq (pts_k (F := F) d _ _).symm) $$ Hk
  ihave Ho' := (Entails.of_eq (pts_o (F := F) d _ _).symm) $$ Ho
  ihave Hs' := (Entails.of_eq (pts_s (F := F) d _ _).symm) $$ Hs
  iapply (wp_wand_r Idealize.ShloMosaic.frame (wpE (defs₀ (F := F)) 𝒱₀ (S0 d h) none) Set.univ)
  isplitl [Hi' Hk' Ho' Hs' Hc0 Hc1 HO]
  · iapply (seq_run_whole d h (fi d) (hr d) O W fs (fk d) (fo d))
    isplitr; · iexact Hmw
    isplitl [Hi']; · iexact Hi'
    isplitl [Hk']; · iexact Hk'
    isplitl [Ho']; · iexact Ho'
    isplitl [Hs']; · iexact Hs'
    isplitl [Hc0]; · iexact Hc0
    isplitl [Hc1]; · iexact Hc1
    iexact HO
  iintro %_ ⟨Hi', Hk', Ho', ⟨%g, Hs'⟩, Hc0, Hc1, HO⟩
  isplitl [Hi' Hk' Ho']
  · isplitl [Hi']; · iapply (Entails.of_eq (pts_i (F := F) d _ _)); iexact Hi'
    isplitl [Hk']; · iapply (Entails.of_eq (pts_k (F := F) d _ _)); iexact Hk'
    iapply (Entails.of_eq (pts_o (F := F) d _ _)); iexact Ho'
  isplitl [Hs' Hbufs Htiles]
  · isplitl [Hs' Hbufs]
    · isplitl [Hs']; · iexists _; iapply (Entails.of_eq (pts_s (F := F) d _ _)); iexact Hs'
      iexact Hbufs
    iexact Htiles
  isplitl [Hc0 Hc1 Hsems HtileSems]
  · isplitl [Hc0 Hc1 Hsems]
    · isplitl [Hc0 Hc1]
      · isplitl [Hc0]; · iexact Hc0
        iexact Hc1
      iexact Hsems
    iexact HtileSems
  iexact HO

end Body

/-! ## The launch -/

theorem defs₀_scalar (c : Fin τ.nSC) :
    defs₀ (F := F) (.scScalar c) 1 ()
      = SparseCore.onCore hcore1 (fun c => cc1_body (coordsS c) iW (Memref.isWhole_whole _) kW (Memref.isWhole_whole _) oW (Memref.isWhole_whole _)
          sW (Memref.isWhole_whole _) cc1_scratch1 cc1_scoped0) ⟨⟩ c := rfl

theorem scalarObl : (K (F := F)).ScalarObl (D (F := F)) 𝒱 (P fi fk fo hr) v₀ 0 := by
  intro d c O W hO _ _
  simp only [show (P fi fk fo hr).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  match c with
  | ⟨0, h⟩ => exact body₀ fi fk fo hr d facts h O W hO

theorem st0_eq (d : Dev nD) : (bigSep Finset.univ fun c : Fin ((K (F := F)).nCore 0) => (P fi fk fo hr).st 0 d c) = before fi fk fo d :=
  bigSep_univ_of_subsingleton (0 : Fin 1)
theorem dn0_eq (d : Dev nD) : (bigSep Finset.univ fun c : Fin ((K (F := F)).nCore 0) => (P fi fk fo hr).dn 0 d c) = after fi fk hr d :=
  bigSep_univ_of_subsingleton (0 : Fin 1)

end Cert.Proof.Whole

end
-- ==== Proof.Whole.Main.lean ====
module

public import proofs.«01_k».proof.Proof.Whole.Call

@[expose] public section

noncomputable section

namespace Cert.Proof.Whole

open Cert.KernelIdeal Cert.KernelIdeal.Gen

open Idealize.ShloMosaic hiding ix1 ix2 ix3 ix4
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix2)

variable {F : FTy → Type} [FloatOps F]

local notation "𝕄" => MT nD τ sig (HIx 1) (Elt F) ℕ UU ℕ

open Idealize.ShloMosaic.Pipeline (ucRefs arrRefs afterRegion)

/-! ## One TensorCore call inside the program -/

abbrev EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ (MT nD τ sig (HIx 1) (Elt F) ℕ UU ℕ)) := by
  unfold EP embR; infer_instance

/-- The waits core `d` may have recorded at level at most `b`. -/
abbrev upTo (b : ℕ) (d : Dev nD) : Set (SemLoc sig × HIx 1) := {pr | (K (F := F)).lev (T d, pr.1) pr.2 ≤ b}

omit [FloatOps F] in
theorem cut (p : Fin 2) (n : ℕ) :
    Pipeline.LevelCut (pcfgs (F := F)) adm none (K (F := F)).L (K (F := F)).lev p (fun d : Dev nD => (K (F := F)).Otc d n) fun _ => 0 where
  hι _ _ _ := Finset.mem_univ _
  hιb _ _ _ := le_refl 0
  hD _ _ _ h := ⟨Finset.mem_univ _, lt_of_lt_of_le (Nat.succ_pos _) ((K (F := F)).lev_of_Otc_pos h)⟩

omit [FloatOps F] in
theorem pairs_le (p : Fin 2) (b : ℕ) (d : Dev nD) : (Pipeline.pin pcfgs (adm (F := F)) p).waitPairs none ⊆ upTo (F := F) b d := by
  rintro _ ⟨w, s, rfl⟩
  exact Nat.zero_le b

/-- The arrays after call `p`, entered at `W` with `n` SparseCore calls done. -/
abbrev afterCall (n b : ℕ) (p : Fin 2) (W : Dev nD → Valuation τ sig (Elt F)) : Dev nD → Valuation τ sig (Elt F) :=
  left W (fun d => (K (F := F)).Otc d n) (upTo (F := F) b) p

theorem arrs_unscoped (p : Fin 2) : arrRefs (τ := τ) (pcfgs (F := F) p).spec ⊆ ucRefs τ sig :=
  Pipeline.arrRefs_sub_ucRefs _ (kit (F := F) p).win.arr_unscoped

/-- Call `p` in the program: the arrays held before at `W` are held after at `afterCall`. -/
theorem call_wp [∀ e, Nonempty (Elt F e)] (n b : ℕ) (p : Fin 2) (W : Dev nD → Valuation τ sig (Elt F)) (d : Dev nD) :
    iprop(boundary (T d) ∗ held (T d) (ucRefs τ sig) (W d) ∗ Pipeline.owesWithin d ((K (F := F)).Otc d n) (upTo (F := F) b d)
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (Prog.lift (.customCall (SparseCore.inner (Pipeline.entry p)) ()))
          fun _ => iprop(boundary (T d) ∗ held (T d) (ucRefs τ sig) (afterCall n b p W d)
            ∗ Pipeline.owesWithin d ((K (F := F)).Otc d n) (upTo (F := F) b d) : sProp 𝕄) := by
  rw [StableHlo.held_sub_split (T d) (arrs_unscoped (F := F) p) (W d), StableHlo.held_sub_split (T d) (arrs_unscoped (F := F) p) (afterCall n b p W d),
    StableHlo.held_congr (T d) (Pipeline.afterRegion_off (pd W (fun d => (K (F := F)).Otc d n) (upTo (F := F) b) p d) (W d) (ucRefs τ sig))]
  refine BI.Entails.trans ?_ ((K (F := F)).wp_liftProg (D (F := F)) 𝒱 (T d) Set.univ none
    (Prog.lift (.customCall (Pipeline.entry p) ())) _)
  refine BIBase.Entails.trans ?_ (Pipeline.RegionSeg.wp pcfgs adm _ none cellOf_inj EP defs₀ Variants.none _ _
    (seg W (fun d => (K (F := F)).Otc d n) (upTo (F := F) b) (K (F := F)).L (K (F := F)).lev (fun _ => 0) p (cut p n) (pairs_le p b)) d none
    (fun _ h => nomatch h) _ _)
  dsimp only [seg]
  iintro ⟨Hb, ⟨Ha, Hr⟩, HO, Hl, Hg, Ht⟩
  isplitl [Hr]
  · iintro ⟨Hb, Ha, HO⟩
    rw [wp_ret]; imodintro
    isplitl [Hb]; · iexact Hb
    isplitr [HO]
    · isplitl [Ha]; · iexact Ha
      iexact Hr
    iexact HO
  isplitl [Hb]; · iexact Hb
  isplitl [Ha HO]
  · isplitl [Ha]; · iexact Ha
    iexact HO
  isplitl [Hl]; · iexact Hl
  isplitl [Hg]; · iexact Hg
  iexact Ht

/-! ## The program -/

variable (m : (ℓ : Loc nD τ sig) → Buf (Elt F) ℓ) (ρ : Dev nD → PrngReg)

abbrev op0 : HloOp τ sig (Elt F) := StableHlo.reshape main_arg3 main_v0 (rfl : (.f32 : EltTy) = .f32) shapeCasts_S192_S1x192
abbrev op1 : HloOp τ sig (Elt F) := StableHlo.reshape main_arg4 main_v1 (rfl : (.f32 : EltTy) = .f32) shapeCasts_S192x1_S1x192
abbrev op2 : HloOp τ sig (Elt F) := StableHlo.reshape main_arg5 main_v2 (rfl : (.f32 : EltTy) = .f32) shapeCasts_S1_S1x1

/-- Where the protocol's levels stand once `n` SparseCore calls are done. -/
abbrev base (n : ℕ) : ℕ := 8 * SparseCore.Cfg.Blocks.fst 1 1 n

/-- The arrays at launch, -/
def V0 (d : Dev nD) : Valuation τ sig (Elt F) := fun b => m (d, b)
/-- after the three reshapes, -/
def V1 (d : Dev nD) : Valuation τ sig (Elt F) := (op2 (F := F)).result ((op1 (F := F)).result ((op0 (F := F)).result (V0 m d)))
/-- after the search, -/
def V2 : Dev nD → Valuation τ sig (Elt F) := afterCall 0 (base 0) 0 (V1 m)

abbrev idxOf (d : Dev nD) : Buf (Elt F) (iLoc d) := V2 m d (Proc.devRef .tc main_v3_1)
abbrev keysOf (d : Dev nD) : Buf (Elt F) (kLoc d) := V2 m d (Proc.devRef .tc main_arg1)
abbrev rowsOf (d : Dev nD) : Buf (Elt F) (oLoc d) := V2 m d (Proc.devRef .tc main_v4)

variable (hr : ∀ (d : Dev nD) (b : Fin 8), (word (idxOf m d) b).toNat < 65536)

/-- after the row copies, -/
def V3 (d : Dev nD) : Valuation τ sig (Elt F) := Function.update (V2 m d) (Proc.devRef .tc main_v4) (out (idxOf m) (keysOf m) hr d)
/-- and after the blend. -/
def V4 : Dev nD → Valuation τ sig (Elt F) := afterCall 1 (base 1) 1 (V3 m hr)

abbrev PP : (K (F := F)).Pay (nD := nD) (Val := Elt F) (Name := ℕ) (U := UU) := P (idxOf m) (keysOf m) (rowsOf m) hr

/-- The three arrays the SparseCore call works on. -/
abbrev S3 : Finset (DevRef τ sig) := {Proc.devRef .tc main_v3_1, Proc.devRef .tc main_arg1, Proc.devRef .tc main_v4}

omit [FloatOps F] in
theorem held_S3 (d : Dev nD) (W : Valuation τ sig (Elt F)) :
    (held (T d) S3 W : sProp 𝕄) = iprop((iLoc d ↦{fullShare} W (Proc.devRef .tc main_v3_1)) ∗ (kLoc d ↦{fullShare} W (Proc.devRef .tc main_arg1))
      ∗ oLoc d ↦{fullShare} W (Proc.devRef .tc main_v4)) := by
  unfold held S3
  rw [SparseCore.bigSep_insert' (by decide), SparseCore.bigSep_insert' (by decide), bigSep_singleton]

theorem S3_sub : S3 ⊆ ucRefs τ sig := by decide

theorem V3_off (d : Dev nD) : ∀ b ∈ ucRefs τ sig \ S3, V3 m hr d b = V2 m d b := fun b hb =>
  Function.update_of_ne (fun e => (Finset.mem_sdiff.mp hb).2 (by rw [e]; decide)) _ _

theorem V3_i (d : Dev nD) : V3 m hr d (Proc.devRef .tc main_v3_1) = idxOf m d := Function.update_of_ne (by decide) _ _
theorem V3_k (d : Dev nD) : V3 m hr d (Proc.devRef .tc main_arg1) = keysOf m d := Function.update_of_ne (by decide) _ _
theorem V3_o (d : Dev nD) : V3 m hr d (Proc.devRef .tc main_v4) = out (idxOf m) (keysOf m) hr d := Function.update_self _ _ _

omit [FloatOps F] in
/-- The TensorCore's state between calls: what it owes within the bound, and the rest. -/
theorem tcSt_open (d : Dev nD) (n : ℕ) : ∃ X : sProp 𝕄,
    (K (F := F)).tcSt EH d n = iprop(Pipeline.owesWithin d ((K (F := F)).Otc d n) (upTo (F := F) (base n) d) ∗ X) := ⟨_, rfl⟩

abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

omit [FloatOps F] in
theorem unscoped_held (d : Dev nD) : (unscopedBufs d (fun b : Ref sig .tc => m ((SparseCore.T d).loc b)) : sProp 𝕄) = held (T d) (ucRefs τ sig) (V0 m d) := by
  rw [← Pipeline.unscopedBufs_held]
  unfold V0
  rfl

omit [FloatOps F] in
theorem op0_sub : (op0 (F := F)).bufs ⊆ ucRefs τ sig := by rw [StableHlo.reshape_bufs]; decide
omit [FloatOps F] in
theorem op1_sub : (op1 (F := F)).bufs ⊆ ucRefs τ sig := by rw [StableHlo.reshape_bufs]; decide
omit [FloatOps F] in
theorem op2_sub : (op2 (F := F)).bufs ⊆ ucRefs τ sig := by rw [StableHlo.reshape_bufs]; decide

theorem hmain [∀ e, Nonempty (Elt F e)] (κ : GSem nD τ sig → ℕ) (d : Dev nD) :
    iprop((K (F := F)).ctx EH (PP m hr) κ ∗ (K (F := F)).tcSt EH d 0 ∗ (K (F := F)).tcRes m ρ d ∗ ghost (F := F) 0 d ∗ ghost (F := F) 1 d)
      ⊢ wp frame (wpE ((K (F := F)).defs (D (F := F))) 𝒱 (T d) none) Set.univ (main d)
          fun _ => iprop((K (F := F)).tcSt EH d 1 ∗ held (T d) (ucRefs τ sig) (V4 m hr d) ∗ (K (F := F)).tcEnd d) := by
  unfold SparseCore.Cfg.tcRes SparseCore.Cfg.tcEnd
  obtain ⟨X0, hX0⟩ := tcSt_open (F := F) d 0
  obtain ⟨X1, hX1⟩ := tcSt_open (F := F) d 1
  rw [unscoped_held]
  simp only [main, wp_bind, wp_pure]
  iintro ⟨#Hctx, Hst, ⟨Hb, Hh, Hts, -⟩, ⟨Hg0, Ht0⟩, Hg1, Ht1⟩
  ihave #Hlv := (SparseCore.Cfg.ctx_levAts (K := K (F := F)) κ) $$ Hctx
  iapply (wp_hlo_within 𝒱 (T d) none Set.univ (op := op0) (S := ucRefs τ sig) op0_sub (V := V0 m d)) $$ [Hb Hh]
  · isplitl [Hb] <;> iassumption
  iintro ⟨Hb, Hh⟩
  rw [wp_ret]; imodintro
  iapply (wp_hlo_within 𝒱 (T d) none Set.univ (op := op1) (S := ucRefs τ sig) op1_sub (V := (op0 (F := F)).result (V0 m d))) $$ [Hb Hh]
  · isplitl [Hb] <;> iassumption
  iintro ⟨Hb, Hh⟩
  rw [wp_ret]; imodintro
  iapply (wp_hlo_within 𝒱 (T d) none Set.univ (op := op2) (S := ucRefs τ sig) op2_sub (V := (op1 (F := F)).result ((op0 (F := F)).result (V0 m d)))) $$ [Hb Hh]
  · isplitl [Hb] <;> iassumption
  iintro ⟨Hb, Hh⟩
  rw [wp_ret]; imodintro
  -- the search
  ihave Hst' := (Entails.of_eq hX0) $$ Hst
  icases Hst' with ⟨HO, HX⟩
  iapply (wp_wand_r Idealize.ShloMosaic.frame (wpE ((K (F := F)).defs (D (F := F))) 𝒱 (T d) none) Set.univ)
  isplitl [Hb Hh HO Hg0 Ht0]
  · iapply (call_wp 0 (base 0) 0 (V1 m) d)
    isplitl [Hb]; · iexact Hb
    isplitl [Hh]; · iexact Hh
    isplitl [HO]; · iexact HO
    isplitr; · iexact Hlv
    isplitl [Hg0] <;> iassumption
  iintro %_ ⟨Hb, Hh, HO⟩
  -- the row copies
  ihave Hh' := (Entails.of_eq (show (held (T d) (ucRefs τ sig) (afterCall 0 (base 0) 0 (V1 m) d) : sProp 𝕄) = _ from
    StableHlo.held_sub_split (T d) S3_sub (V2 m d))) $$ Hh
  icases Hh' with ⟨Hh, Hrest⟩
  iapply ((K (F := F)).wp_run (D (F := F)) 𝒱 (EH := EH) (P := PP m hr) κ d 0)
  isplitr; · iexact Hctx
  isplitl [HO HX]
  · iapply (Entails.of_eq hX0.symm)
    isplitl [HO] <;> iassumption
  isplitl [Hh]
  · rw [st0_eq]; iapply (Entails.of_eq (held_S3 d (V2 m d))); iexact Hh
  iintro ⟨Hst, Hdn⟩
  ihave Hdn' := (Entails.of_eq (dn0_eq (idxOf m) (keysOf m) (rowsOf m) hr d)) $$ Hdn
  ihave Hst' := (Entails.of_eq (show ((K (F := F)).tcSt EH d ((0 : Fin 1).val + 1) : sProp 𝕄) = _ from hX1)) $$ Hst
  icases Hst' with ⟨HO, HX⟩
  -- the blend
  iapply (wp_wand_r Idealize.ShloMosaic.frame (wpE ((K (F := F)).defs (D (F := F))) 𝒱 (T d) none) Set.univ)
  isplitl [Hb Hdn' Hrest HO Hg1 Ht1]
  · iapply (call_wp 1 (base 1) 1 (V3 m hr) d)
    isplitl [Hb]; · iexact Hb
    isplitl [Hdn' Hrest]
    · iapply (Entails.of_eq (StableHlo.held_sub_split (T d) S3_sub (V3 m hr d)).symm)
      isplitl [Hdn']
      · rw [held_S3, V3_i, V3_k, V3_o]; iexact Hdn'
      rw [StableHlo.held_congr (T d) (V3_off m hr d)]; iexact Hrest
    isplitl [HO]; · iexact HO
    isplitr; · iexact Hlv
    isplitl [Hg1] <;> iassumption
  iintro %_ ⟨Hb, Hh, HO⟩
  imodintro
  isplitl [HO HX]
  · iapply (Entails.of_eq hX1.symm)
    isplitl [HO] <;> iassumption
  isplitl [Hh]
  · iapply (Entails.of_eq (show (held (T d) (ucRefs τ sig) (afterCall 1 (base 1) 1 (V3 m hr) d) : sProp 𝕄) = held (T d) (ucRefs τ sig) (V4 m hr d) from rfl)); iexact Hh
  isplitl [Hb] <;> iassumption

end Cert.Proof.Whole

end
-- ==== Proof.Whole.Run.lean ====
module

public import proofs.«01_k».proof.Proof.Whole.Main

@[expose] public section

noncomputable section

namespace Cert.Proof.Whole

open Cert.KernelIdeal Cert.KernelIdeal.Gen

open Idealize.ShloMosaic hiding ix1 ix2 ix3 ix4
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix2)

variable {F : FTy → Type} [FloatOps F]

local notation "𝕄" => MT nD τ sig (HIx 1) (Elt F) ℕ UU ℕ

open Idealize.ShloMosaic.Pipeline (ucRefs arrRefs afterRegion)

open Idealize.ShloMosaic.Pipeline (ucRefs arrRefs afterRegion)

/-! ## The launch -/

variable (m : (ℓ : Loc nD τ sig) → Buf (Elt F) ℓ) (ρ : Dev nD → PrngReg)
variable (hr : ∀ (d : Dev nD) (b : Fin 8), (word (idxOf m d) b).toNat < 65536)

omit [FloatOps F] in
theorem pin_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

omit [FloatOps F] in
theorem bigSep_nothing {I : Type} (s : Finset I) : (bigSep s fun _ => iprop(emp)) = (iprop(emp) : sProp 𝕄) := bigSep_emp_const s

omit [FloatOps F] in
theorem ghost_both (d : Dev nD) : (bigSep Finset.univ fun p : Fin 2 => ghost (F := F) p d) = iprop(ghost (F := F) 0 d ∗ ghost (F := F) 1 d) := by
  rw [show (Finset.univ : Finset (Fin 2)) = {0, 1} by decide, SparseCore.bigSep_insert' (by decide), bigSep_singleton]

theorem hu₀ : (ownU (u₀ (F := F)) : sProp 𝕄)
    ⊢ |={Set.univ}=> iprop(BI.own (EH (initOf (K (F := F)).hsCells (K (F := F)).hsToks))
        ∗ (bigSep Finset.univ fun d : Dev nD => iprop(ghost (F := F) 0 d ∗ ghost (F := F) 1 d))
        ∗ bigSep Finset.univ fun thr : Thread nD τ => bigSep Finset.univ fun q : Fin 1 => (PP m hr).x q thr) := by
  unfold u₀
  iintro Hu
  ihave H := (ownU_pair (initOf (K (F := F)).hsCells (K (F := F)).hsToks)
    ((initOf (Pipeline.cells (Pipeline.pin (pcfgs (F := F)) adm) pin_inj) (Pipeline.launchToks (Pipeline.pin (pcfgs (F := F)) adm) pin_inj), 1) : UR sig nD τ × Counters)) $$ Hu
  icases H with ⟨HH, Hp⟩
  ihave H := (own_pair_emb (A := UR sig nD τ) (B := Counters) (embR (Val := Elt F))
    (initOf (Pipeline.cells (Pipeline.pin (pcfgs (F := F)) adm) pin_inj) (Pipeline.launchToks (Pipeline.pin (pcfgs (F := F)) adm) pin_inj)) 1) $$ Hp
  icases H with ⟨Hp, -⟩
  imod (Pipeline.fund_ghost (Pipeline.pin (pcfgs (F := F)) adm) EP pin_inj) $$ Hp with ⟨Hg, Ht⟩
  imodintro
  isplitl [HH]; · iexact HH
  isplitl [Hg Ht]
  · rw [show (bigSep Finset.univ fun d : Dev nD => iprop(ghost (F := F) 0 d ∗ ghost (F := F) 1 d)) = bigSep Finset.univ fun d : Dev nD => bigSep Finset.univ fun p : Fin 2 => ghost (F := F) p d from
      bigSep_congr fun d _ => (ghost_both d).symm]
    simp only [ghost, bigSep_sep']
    isplitl [Hg] <;> iassumption
  rw [show (bigSep Finset.univ fun thr : Thread nD τ => bigSep Finset.univ fun q : Fin 1 => (PP m hr).x q thr) = bigSep Finset.univ fun _ => iprop(emp) from
    bigSep_congr fun _ _ => bigSep_univ_of_subsingleton (0 : Fin 1), bigSep_nothing]
  iempintro

omit [FloatOps F] in
/-- An array held in full is what the memory holds. -/
theorem read_full (s' : Phys nD τ sig (Elt F)) (ℓ : Loc nD τ sig) (f : Buf (Elt F) ℓ) (R : sProp 𝕄)
    (h : R ⊢ iprop(SI s' ∗ ℓ ↦{fullShare} f)) : R ⊢ (⌜s'.mem.mem ℓ = f⌝ : sProp 𝕄) :=
  (h.trans SI_pointsTo_agree).trans (Laws.pure_mono fun e => funext fun i => e i (Finset.mem_univ i))

omit [FloatOps F] in
/-- Arrays held in full are what the memory holds. -/
theorem read_held (d : Dev nD) (W : Valuation τ sig (Elt F)) (s' : Phys nD τ sig (Elt F)) :
    iprop(held (T d) (ucRefs τ sig) W ∗ SI s') ⊢ (⌜∀ b ∈ ucRefs τ sig, s'.mem.mem (d, b) = W b⌝ : sProp 𝕄) := by
  refine (Laws.forall_intro fun b => (Laws.forall_intro fun hb => ?_).trans Laws.pure_forall.2).trans Laws.pure_forall.2
  refine read_full s' (d, b) (W b) _ ?_
  unfold StableHlo.held
  rw [SparseCore.bigSep_erase' hb]
  iintro ⟨⟨H, -⟩, HS⟩
  isplitl [HS] <;> iassumption

theorem run_main [∀ e, Nonempty (Elt F e)] :
    θ_run (Cert.KernelIdeal.defs (F := F)) (Cert.KernelIdeal.threads (F := F)) ⟨m, fun _ => 0, ρ⟩
      fun r => (∀ d : Dev nD, ∀ b ∈ ucRefs τ sig, r.2.mem (d, b) = V4 m hr d b) ∧ r.2.sem = fun _ => 0 :=
  SparseCore.Cfg.θ_run_sc_quiescent (K := K (F := F)) (D := D (F := F)) (𝒱 := 𝒱) (EH := EH) (P := PP m hr) (A := ∅) facts v₀
    (fun q _ => match q with | 0 => scalarObl _ _ _ hr)
    (fun q hq => match q with | 0 => nomatch hq)
    (fun q hq => match q with | 0 => nomatch hq)
    m ρ main (fun d => iprop(ghost (F := F) 0 d ∗ ghost (F := F) 1 d)) (fun d => held (T d) (ucRefs τ sig) (V4 m hr d)) (u₀ (F := F))
    (sep_elim_left.trans (hu₀ m hr)) (hmain m ρ hr) (fun d s' => ∀ b ∈ ucRefs τ sig, s'.mem.mem (d, b) = V4 m hr d b)
    (fun d s' => read_held d (V4 m hr d) s') _ (fun _ h hz => ⟨h, hz⟩)

end Cert.Proof.Whole

end
-- ==== Proof.Whole.Arrays.lean ====
module

public import proofs.«01_k».proof.Proof.Whole.Run
public import Idealize.ShloMosaic.Lib.Pipeline.ValueKit

@[expose] public section

set_option maxRecDepth 16384

noncomputable section

namespace Cert.Proof.Whole

open Cert.KernelIdeal Cert.KernelIdeal.Gen

open Idealize.ShloMosaic hiding ix1 ix2 ix3 ix4
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4)
open Idealize.ShloMosaic.Pipeline (Dat Cfg Window BodyObligation cellOf)

variable {F : FTy → Type} [FloatOps F]

local notation "𝕄" => MT nD τ sig (HIx 1) (Elt F) ℕ UU ℕ

/-! ## What the TensorCore calls leave in their result arrays -/

section
variable (W : Valuation τ sig (Elt F)) (O : CellTallies nD τ sig (HIx 1)) (R : Set (SemLoc sig × HIx 1)) (c : Dev nD)

/-- The last grid point of the first call. -/
abbrev z15 : Fin cfg0.N := ⟨15, by decide⟩

theorem left_gate : (dat0 W O R c).arrAt 6 cfg0.N = gate W := by
  refine (dat0 W O R c).arrAt_eq_of_after_last 6 z15 (by decide +kernel) _ fun j => ?_
  rfl

theorem left_idx : (dat0 W O R c).arrAt 7 cfg0.N = idxRow W := by
  refine (dat0 W O R c).arrAt_eq_of_after_last 7 z15 (by decide +kernel) _ fun j => ?_
  rfl

/-- The blend of whole arrays: gate `i`, hidden state `(j, s, k)` and retrieved row `j`. -/
def blendAll (w : S8x128.Idx → F .f32) (h : S8x512x768.Idx → F .f32) (r : S8x768.Idx → F .f32) : S8x8x512x768.Idx → F .f32 := fun y =>
  blendAt (w (ix2 (y 0) (0 : Fin 128))) (h (ix3 (y 1) (y 2) (y 3))) (r (ix2 (y 1) (y 3)))

theorem idx2_0 : ∀ t : Fin grid2.N, win2_0.index t = ![0, 0] := by decide +kernel
theorem idx2_1 : ∀ t : Fin grid2.N, win2_1.index t = ![((grid2.coords t) 0).val, 0, 0] := by decide +kernel
theorem idx2_2 : ∀ t : Fin grid2.N, win2_2.index t = ![0, 0] := by decide +kernel
theorem idx2_3 : ∀ t : Fin grid2.N, win2_3.index t = ![0, ((grid2.coords t) 0).val, 0, 0] := by decide +kernel

theorem left_blend : (dat2 W O R c).arrAt 3 cfg2.N
    = blendAll (W (Proc.devRef .tc main_v3_0)) (W (Proc.devRef .tc main_arg0)) (W (Proc.devRef .tc main_v4)) := by
  refine (dat2 W O R c).arrAt_eq_of_covers 3 _ (by decide +kernel) fun t hf y => ?_
  have hb1 : (y 1).val < 1 := (y 1).isLt
  have e : ((cfg2.win 3).blk t).view.emb y = ix4 (y 0) ⟨((grid2.coords t) 0).val, ((grid2.coords t) 0).isLt⟩ (y 2) (y 3) := by
    blk_ext [idx2_3]
    all_goals simp [ix4]
    all_goals omega
  have e0 : (win2_0.blk t).view.emb (ix2 (y 0) (0 : Fin 128)) = ix2 (y 0) (0 : Fin 128) := by
    blk_ext [idx2_0]
  have e1 : (win2_1.blk t).view.emb (ix3 (0 : Fin 1) (y 2) (y 3)) = ix3 ((grid2.coords t) 0) (y 2) (y 3) := by
    blk_ext [idx2_1]
    all_goals simp [ix3]
  have e2 : (win2_2.blk t).view.emb (ix2 ((grid2.coords t) 0) (y 3)) = ix2 ((grid2.coords t) 0) (y 3) := by
    blk_ext [idx2_2]
  show blendAt (W (Proc.devRef .tc main_v3_0) ((win2_0.blk t).view.emb (ix2 (y 0) (0 : Fin 128))))
      (W (Proc.devRef .tc main_arg0) ((win2_1.blk t).view.emb (ix3 (0 : Fin 1) (y 2) (y 3))))
      (W (Proc.devRef .tc main_v4) ((win2_2.blk t).view.emb (ix2 ((grid2.coords t) 0) (y 3)))) = _
  refine Eq.trans ?_ (congrArg (blendAll (W (Proc.devRef .tc main_v3_0)) (W (Proc.devRef .tc main_arg0)) (W (Proc.devRef .tc main_v4))) e).symm
  exact congr (congr (congrArg _ (congrArg _ e0)) (congrArg _ e1)) (congrArg _ e2)

end

end Cert.Proof.Whole

end
-- ==== Proof.Whole.States.lean ====
module

public import proofs.«01_k».proof.Proof.Whole.Arrays
@[expose] public section

set_option maxRecDepth 16384

noncomputable section

namespace Cert.Proof.Whole

open Cert.KernelIdeal Cert.KernelIdeal.Gen

open Idealize.ShloMosaic hiding ix1 ix2 ix3 ix4
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4)
open Idealize.ShloMosaic.Pipeline (Dat Cfg Window BodyObligation cellOf)

variable {F : FTy → Type} [FloatOps F]

local notation "𝕄" => MT nD τ sig (HIx 1) (Elt F) ℕ UU ℕ

/-! ## The program's arrays between its calls, read from the arguments -/

section
variable (m : (ℓ : Loc nD τ sig) → Buf (Elt F) ℓ) (d : Dev nD)

/-- An array the three reshapes do not write is as it was. -/
theorem V1_keep (b : Ref sig .tc) (h0 : b ≠ main_v0) (h1 : b ≠ main_v1) (h2 : b ≠ main_v2) : V1 (F := F) m d (Proc.devRef .tc b) = m (d, Proc.devRef .tc b) :=
  (StableHlo.reshape_result_ne (h := h2) ..).trans ((StableHlo.reshape_result_ne (h := h1) ..).trans (StableHlo.reshape_result_ne (h := h0) ..))

theorem V1_arg0 : V1 (F := F) m d (Proc.devRef .tc main_arg0) = m (d, Proc.devRef .tc main_arg0) := V1_keep m d main_arg0 (by decide) (by decide) (by decide)
theorem V1_arg1 : V1 (F := F) m d (Proc.devRef .tc main_arg1) = m (d, Proc.devRef .tc main_arg1) := V1_keep m d main_arg1 (by decide) (by decide) (by decide)
theorem V1_arg2 : V1 (F := F) m d (Proc.devRef .tc main_arg2) = m (d, Proc.devRef .tc main_arg2) := V1_keep m d main_arg2 (by decide) (by decide) (by decide)
theorem V1_arg3 : V1 (F := F) m d (Proc.devRef .tc main_arg3) = m (d, Proc.devRef .tc main_arg3) := V1_keep m d main_arg3 (by decide) (by decide) (by decide)
theorem V1_arg4 : V1 (F := F) m d (Proc.devRef .tc main_arg4) = m (d, Proc.devRef .tc main_arg4) := V1_keep m d main_arg4 (by decide) (by decide) (by decide)
theorem V1_arg5 : V1 (F := F) m d (Proc.devRef .tc main_arg5) = m (d, Proc.devRef .tc main_arg5) := V1_keep m d main_arg5 (by decide) (by decide) (by decide)

theorem V1_v0 : V1 (F := F) m d (Proc.devRef .tc main_v0) = shapeCast S1x192 (m (d, Proc.devRef .tc main_arg3) : S192.Idx → F .f32) shapeCasts_S192_S1x192 := by
  unfold V1
  rw [(op2 (F := F)).result_of_not_mem _ (show (Proc.devRef .tc main_v0 : DevRef τ sig) ∉ _ from by rw [StableHlo.reshape_writes]; decide), (op1 (F := F)).result_of_not_mem _ (show (Proc.devRef .tc main_v0 : DevRef τ sig) ∉ _ from by rw [StableHlo.reshape_writes]; decide)]
  exact StableHlo.reshape_result _ _ _ _ _ _ _

theorem V1_v1 : V1 (F := F) m d (Proc.devRef .tc main_v1) = shapeCast S1x192 (m (d, Proc.devRef .tc main_arg4) : S192x1.Idx → F .f32) shapeCasts_S192x1_S1x192 := by
  unfold V1
  rw [(op2 (F := F)).result_of_not_mem _ (show (Proc.devRef .tc main_v1 : DevRef τ sig) ∉ _ from by rw [StableHlo.reshape_writes]; decide)]
  refine (StableHlo.reshape_result _ _ _ _ _ _ _).trans ?_
  rw [(op0 (F := F)).result_of_not_mem _ (show (Proc.devRef .tc main_arg4 : DevRef τ sig) ∉ _ from by rw [StableHlo.reshape_writes]; decide)]
  rfl

theorem V1_v2 : V1 (F := F) m d (Proc.devRef .tc main_v2) = shapeCast S1x1 (m (d, Proc.devRef .tc main_arg5) : S1.Idx → F .f32) shapeCasts_S1_S1x1 := by
  unfold V1
  refine (StableHlo.reshape_result _ _ _ _ _ _ _).trans ?_
  rw [(op1 (F := F)).result_of_not_mem _ (show (Proc.devRef .tc main_arg5 : DevRef τ sig) ∉ _ from by rw [StableHlo.reshape_writes]; decide), (op0 (F := F)).result_of_not_mem _ (show (Proc.devRef .tc main_arg5 : DevRef τ sig) ∉ _ from by rw [StableHlo.reshape_writes]; decide)]
  rfl

/-! ### After the first call -/

theorem V2_gate : V2 (F := F) m d (Proc.devRef .tc main_v3_0) = gate (V1 (F := F) m d) :=
  (Pipeline.afterRegion_arr (dat0 (V1 m d) _ _ d) (V1 m d) (kit (F := F) 0).win.arr_inj 6).trans (left_gate _ _ _ _)

theorem V2_idx : V2 (F := F) m d (Proc.devRef .tc main_v3_1) = idxRow (V1 (F := F) m d) :=
  (Pipeline.afterRegion_arr (dat0 (V1 m d) _ _ d) (V1 m d) (kit (F := F) 0).win.arr_inj 7).trans (left_idx _ _ _ _)

theorem V2_keep (b : Ref sig .tc) (h : ∀ w, Pipeline.arrRef (cfg0).spec w = b → ((cfg0).win w).isOut = false) :
    V2 (F := F) m d (Proc.devRef .tc b) = V1 (F := F) m d (Proc.devRef .tc b) :=
  Pipeline.afterRegion_keeps (dat0 (V1 m d) _ _ d) (V1 m d) (kit (F := F) 0).win.arr_inj (fun _ => rfl) b h

theorem V3_keep (hr : ∀ (d : Dev nD) (b : Fin 8), (word (idxOf (F := F) m d) b).toNat < 65536) (b : Ref sig .tc) (h : (Proc.devRef .tc b : DevRef τ sig) ≠ Proc.devRef .tc main_v4) :
    V3 (F := F) m hr d (Proc.devRef .tc b) = V2 (F := F) m d (Proc.devRef .tc b) := Function.update_of_ne h _ _

theorem V4_keep (hr : ∀ (d : Dev nD) (b : Fin 8), (word (idxOf (F := F) m d) b).toNat < 65536) (b : Ref sig .tc) (h : ∀ w, Pipeline.arrRef (cfg2).spec w = b → ((cfg2).win w).isOut = false) :
    V4 (F := F) m hr d (Proc.devRef .tc b) = V3 (F := F) m hr d (Proc.devRef .tc b) :=
  Pipeline.afterRegion_keeps (dat2 (V3 m hr d) _ _ d) (V3 m hr d) (kit (F := F) 1).win.arr_inj (fun _ => rfl) b h

/-- An array none of the calls writes is at the end as the reshapes left it. -/
theorem V4_through (hr : ∀ (d : Dev nD) (b : Fin 8), (word (idxOf (F := F) m d) b).toNat < 65536) (b : Ref sig .tc) (h0 : ∀ w, Pipeline.arrRef (cfg0).spec w = b → ((cfg0).win w).isOut = false)
    (h : (Proc.devRef .tc b : DevRef τ sig) ≠ Proc.devRef .tc main_v4) (h2 : ∀ w, Pipeline.arrRef (cfg2).spec w = b → ((cfg2).win w).isOut = false) :
    V4 (F := F) m hr d (Proc.devRef .tc b) = V1 (F := F) m d (Proc.devRef .tc b) :=
  (V4_keep m d hr b h2).trans ((V3_keep m d hr b h).trans (V2_keep m d b h0))

theorem V4_arg0 (hr : ∀ (d : Dev nD) (b : Fin 8), (word (idxOf (F := F) m d) b).toNat < 65536) : V4 (F := F) m hr d (Proc.devRef .tc main_arg0) = m (d, Proc.devRef .tc main_arg0) := (V4_through m d hr main_arg0 (by decide) (by decide) (by decide)).trans (V1_arg0 m d)
theorem V4_arg1 (hr : ∀ (d : Dev nD) (b : Fin 8), (word (idxOf (F := F) m d) b).toNat < 65536) : V4 (F := F) m hr d (Proc.devRef .tc main_arg1) = m (d, Proc.devRef .tc main_arg1) := (V4_through m d hr main_arg1 (by decide) (by decide) (by decide)).trans (V1_arg1 m d)
theorem V4_arg2 (hr : ∀ (d : Dev nD) (b : Fin 8), (word (idxOf (F := F) m d) b).toNat < 65536) : V4 (F := F) m hr d (Proc.devRef .tc main_arg2) = m (d, Proc.devRef .tc main_arg2) := (V4_through m d hr main_arg2 (by decide) (by decide) (by decide)).trans (V1_arg2 m d)
theorem V4_arg3 (hr : ∀ (d : Dev nD) (b : Fin 8), (word (idxOf (F := F) m d) b).toNat < 65536) : V4 (F := F) m hr d (Proc.devRef .tc main_arg3) = m (d, Proc.devRef .tc main_arg3) := (V4_through m d hr main_arg3 (by decide) (by decide) (by decide)).trans (V1_arg3 m d)
theorem V4_arg4 (hr : ∀ (d : Dev nD) (b : Fin 8), (word (idxOf (F := F) m d) b).toNat < 65536) : V4 (F := F) m hr d (Proc.devRef .tc main_arg4) = m (d, Proc.devRef .tc main_arg4) := (V4_through m d hr main_arg4 (by decide) (by decide) (by decide)).trans (V1_arg4 m d)
theorem V4_arg5 (hr : ∀ (d : Dev nD) (b : Fin 8), (word (idxOf (F := F) m d) b).toNat < 65536) : V4 (F := F) m hr d (Proc.devRef .tc main_arg5) = m (d, Proc.devRef .tc main_arg5) := (V4_through m d hr main_arg5 (by decide) (by decide) (by decide)).trans (V1_arg5 m d)

/-- The result: the blend of the hidden states with the retrieved rows by the gates. -/
theorem V4_result (hr : ∀ (d : Dev nD) (b : Fin 8), (word (idxOf (F := F) m d) b).toNat < 65536) : V4 (F := F) m hr d (Proc.devRef .tc main_v5)
    = blendAll (gate (V1 (F := F) m d)) (m (d, Proc.devRef .tc main_arg0)) (out (idxOf (F := F) m) (keysOf (F := F) m) hr d) := by
  refine (Pipeline.afterRegion_arr (dat2 (V3 m hr d) _ _ d) (V3 m hr d) (kit (F := F) 1).win.arr_inj 3).trans ((left_blend _ _ _ _).trans ?_)
  rw [V3_o, V3_keep m d hr main_v3_0 (by decide), V2_gate, V3_keep m d hr main_arg0 (by decide), V2_keep m d main_arg0 (by decide), V1_arg0]

theorem keysOf_eq : keysOf (F := F) m d = m (d, Proc.devRef .tc main_arg1) := (V2_keep m d main_arg1 (by decide)).trans (V1_arg1 m d)

end

/-! ### The blocks the first call reads -/

section
variable (W : Valuation τ sig (Elt F))

theorem idx0_0 : ∀ t : Fin grid0.N, win0_0.index t = ![0, 0, 0] := by decide +kernel

theorem blk0_0 : blk0 W 0 z0 = W (Proc.devRef .tc main_arg0) := by
  funext y
  have e : (win0_0.blk z0).view.emb y = y := by blk_ext [idx0_0]
  exact congrArg (W (Proc.devRef .tc main_arg0)) e

theorem idx0_1 : ∀ t : Fin grid0.N, win0_1.index t = ![0, 0] := by decide +kernel

theorem blk0_1 : blk0 W 1 z0 = W (Proc.devRef .tc main_arg2) := by
  funext y
  have e : (win0_1.blk z0).view.emb y = y := by blk_ext [idx0_1]
  exact congrArg (W (Proc.devRef .tc main_arg2)) e

theorem idx0_2 : ∀ t : Fin grid0.N, win0_2.index t = ![0, 0] := by decide +kernel

theorem blk0_2 : blk0 W 2 z0 = W (Proc.devRef .tc main_v0) := by
  funext y
  have e : (win0_2.blk z0).view.emb y = y := by blk_ext [idx0_2]
  exact congrArg (W (Proc.devRef .tc main_v0)) e

theorem idx0_3 : ∀ t : Fin grid0.N, win0_3.index t = ![0, 0] := by decide +kernel

theorem blk0_3 : blk0 W 3 z0 = W (Proc.devRef .tc main_v1) := by
  funext y
  have e : (win0_3.blk z0).view.emb y = y := by blk_ext [idx0_3]
  exact congrArg (W (Proc.devRef .tc main_v1)) e

theorem idx0_4 : ∀ t : Fin grid0.N, win0_4.index t = ![0, 0] := by decide +kernel

theorem blk0_4 : blk0 W 4 z0 = W (Proc.devRef .tc main_v2) := by
  funext y
  have e : (win0_4.blk z0).view.emb y = y := by blk_ext [idx0_4]
  exact congrArg (W (Proc.devRef .tc main_v2)) e

theorem idx0_5 : ∀ t : Fin grid0.N, win0_5.index t = ![t.val, 0] := by decide +kernel

theorem blk0_5 (t : Fin cfg0.N) (y : S4096x768.Idx) :
    blk0 W 5 t y = W (Proc.devRef .tc main_arg1) (ix2 ⟨t.val * 4096 + (y 0).val, by have : (y 0).val < 4096 := (y 0).isLt; have : t.val < 16 := lt_of_lt_of_eq t.isLt N_0; omega⟩ (y 1)) := by
  have e : (win0_5.blk t).view.emb y = ix2 ⟨t.val * 4096 + (y 0).val, by have : (y 0).val < 4096 := (y 0).isLt; have : t.val < 16 := lt_of_lt_of_eq t.isLt N_0; omega⟩ (y 1) := by
    blk_ext [idx0_5]
  exact congrArg (W (Proc.devRef .tc main_arg1)) e

end

end Cert.Proof.Whole

end
-- ==== Proof.Whole.First.lean ====
module

public import Idealize.ShloMosaic.PureOps.Ideal

/-!
# The first position of a least value

The search for the nearest key on its own, over any linear order. `IsFirst s g` says that `g` is the
first position at which `s` takes its least value. A position with that property is unique, the
property only depends on the order of the values, and a running minimum kept per lane over blocks of
4096 positions, reduced over the lanes at the end, finds it.
-/

@[expose] public section

namespace Cert.Proof.Whole

/-- `g` is the first of the positions at which `s` is least. -/
def IsFirst {n : ℕ} {α : Type} [LinearOrder α] (s : Fin n → α) (g : Fin n) : Prop := (∀ j, s g ≤ s j) ∧ ∀ j, j < g → s g < s j

section
variable {α : Type} [LinearOrder α]

/-- There is one such position only. -/
theorem IsFirst.unique {n : ℕ} {s : Fin n → α} {g g' : Fin n} (h : IsFirst s g) (h' : IsFirst s g') : g = g' := by
  rcases lt_trichotomy g g' with hlt | he | hlt
  · exact absurd (h.1 g') (not_le.2 (h'.2 g hlt))
  · exact he
  · exact absurd (h'.1 g) (not_le.2 (h.2 g' hlt))

/-- It depends on the order of the values alone. -/
theorem IsFirst.of_lt_iff {n : ℕ} {β : Type} [LinearOrder β] {s : Fin n → α} {s' : Fin n → β} (e : ∀ i j, s i < s j ↔ s' i < s' j) {g : Fin n}
    (h : IsFirst s g) : IsFirst s' g :=
  ⟨fun j => not_lt.1 fun hj => not_lt.2 (h.1 j) ((e j g).2 hj), fun j hj => (e g j).1 (h.2 j hj)⟩

/-- A running strict minimum, with the step that set it: after step `n` it is the least of the first
`n + 1` values, and the step kept is the first at which it is taken. -/
theorem running_first (s M : ℕ → α) (T : ℕ → ℕ) (hM0 : M 0 = s 0) (hT0 : T 0 = 0) (N : ℕ)
    (hM : ∀ n, n < N → M (n + 1) = if s (n + 1) < M n then s (n + 1) else M n)
    (hT : ∀ n, n < N → T (n + 1) = if s (n + 1) < M n then n + 1 else T n) :
    ∀ n, n ≤ N → T n ≤ n ∧ M n = s (T n) ∧ (∀ t, t ≤ n → M n ≤ s t) ∧ ∀ t, t < T n → M n < s t := by
  intro n
  induction n with
  | zero =>
    intro _
    refine ⟨by omega, by rw [hM0, hT0], fun t ht => ?_, fun t ht => absurd ht (by omega)⟩
    obtain rfl : t = 0 := by omega
    exact le_of_eq hM0
  | succ n ih =>
    intro hn
    obtain ⟨h1, h2, h3, h4⟩ := ih (by omega)
    by_cases hlt : s (n + 1) < M n
    · rw [hM n (by omega), hT n (by omega), if_pos hlt, if_pos hlt]
      refine ⟨le_rfl, rfl, fun t ht => ?_, fun t ht => lt_of_lt_of_le hlt (h3 t (by omega))⟩
      rcases Nat.lt_or_ge n t with h | h
      · obtain rfl : t = n + 1 := by omega
        exact le_rfl
      · exact (lt_of_lt_of_le hlt (h3 t h)).le
    · rw [hM n (by omega), hT n (by omega), if_neg hlt, if_neg hlt]
      refine ⟨by omega, h2, fun t ht => ?_, h4⟩
      rcases Nat.lt_or_ge n t with h | h
      · obtain rfl : t = n + 1 := by omega
        exact not_lt.1 hlt
      · exact h3 t h

/-- Position `4096 t + l` of 65536, for a block `t` of 16 and a lane `l` of 4096. -/
def pos (t : ℕ) (ht : t < 16) (l : Fin 4096) : Fin 65536 := ⟨t * 4096 + l.val, by have := l.isLt; omega⟩

/-- From the lanes to the whole: the least, over the lanes that hold the least value, of the position each
lane kept is the first position of the least value. -/
theorem first_of_lanes (s : Fin 65536 → α) (M : Fin 4096 → α) (T : Fin 4096 → ℕ) (hT : ∀ l, T l < 16)
    (hM : ∀ l, M l = s (pos (T l) (hT l) l)) (hle : ∀ l t (ht : t < 16), M l ≤ s (pos t ht l)) (hlt : ∀ l t (ht : t < 16), t < T l → M l < s (pos t ht l))
    (m : α) (hm : ∀ l, m ≤ M l) (g : ℕ) (hg : ∀ l, M l = m → g ≤ T l * 4096 + l.val) (hex : ∃ l, M l = m ∧ g = T l * 4096 + l.val) :
    ∃ h : g < 65536, IsFirst s ⟨g, h⟩ := by
  obtain ⟨l, hl, rfl⟩ := hex
  refine ⟨(pos (T l) (hT l) l).isLt, ?_⟩
  have e : s (pos (T l) (hT l) l) = m := (hM l).symm.trans hl
  have split : ∀ j : Fin 65536, ∃ (t : ℕ) (ht : t < 16) (k : Fin 4096), j = pos t ht k := fun j =>
    ⟨j.val / 4096, by have := j.isLt; omega, ⟨j.val % 4096, Nat.mod_lt _ (by omega)⟩, Fin.ext (by show j.val = j.val / 4096 * 4096 + j.val % 4096; omega)⟩
  have hmin : ∀ j, m ≤ s j := fun j => by
    obtain ⟨t, ht, k, rfl⟩ := split j
    exact (hm k).trans (hle k t ht)
  refine ⟨fun j => e.trans_le (hmin j), fun j hj => e.trans_lt (lt_of_le_of_ne (hmin j) fun hjm => ?_)⟩
  obtain ⟨t, ht, k, rfl⟩ := split j
  have hk : M k = m := le_antisymm ((hle k t ht).trans hjm.ge) (hm k)
  have hTk : T k ≤ t := not_lt.1 fun h => absurd (hlt k t ht h) (not_lt.2 (hjm.ge.trans hk.ge))
  have h1 := hg k hk
  have h2 : t * 4096 + k.val < T l * 4096 + l.val := hj
  have h3 : T k * 4096 ≤ t * 4096 := Nat.mul_le_mul_right _ hTk
  omega

/-- The first element of a stable sort by increasing value, of positions in increasing order: the first of those at which
the value is least. -/
theorem head_stableSort {n : ℕ} (w : Fin n → α) (before : Fin n → Fin n → Bool) (hb : ∀ a b, before a b = true ↔ w a < w b) :
    ∀ l : List (Fin n), l.Pairwise (· < ·) → l ≠ [] → ∃ (h : Fin n) (r : List (Fin n)), Idealize.ShloMosaic.stableSort before l = h :: r
      ∧ (∀ x ∈ l, w h ≤ w x) ∧ ∀ x ∈ l, x < h → w h < w x := by
  intro l
  induction l with
  | nil => exact fun _ h => absurd rfl h
  | cons a l ih =>
    intro hp _
    obtain ⟨ha, hp⟩ := List.pairwise_cons.1 hp
    unfold Idealize.ShloMosaic.stableSort
    rcases List.eq_nil_or_concat l with rfl | hne
    · refine ⟨a, [], rfl, fun x hx => ?_, fun x hx hlt => ?_⟩
      · rw [List.mem_singleton.1 hx]
      · rw [List.mem_singleton.1 hx] at hlt
        exact absurd hlt (lt_irrefl a)
    · obtain ⟨h, r, e, h1, h2⟩ := ih hp (by rintro rfl; simp at hne)
      rw [e]
      unfold Idealize.ShloMosaic.insertBefore
      by_cases hlt : w h < w a
      · rw [if_pos ((hb h a).2 hlt)]
        exact ⟨h, _, rfl, List.forall_mem_cons.2 ⟨hlt.le, h1⟩, List.forall_mem_cons.2 ⟨fun _ => hlt, h2⟩⟩
      · rw [if_neg (fun hh => hlt ((hb h a).1 hh))]
        refine ⟨a, _, rfl, List.forall_mem_cons.2 ⟨le_rfl, fun x hx => (not_lt.1 hlt).trans (h1 x hx)⟩, List.forall_mem_cons.2 ⟨fun hh => absurd hh (lt_irrefl a), fun x hx hh => absurd (ha x hx) (not_lt.2 hh.le)⟩⟩

/-- The position a stable sort by increasing value puts first is the first position of the least value. -/
theorem isFirst_sortedFrom {n : ℕ} (w : Fin n → α) (before : Fin n → Fin n → Bool) (hb : ∀ a b, before a b = true ↔ w a < w b) (z : Fin n) (hz : z.val = 0) :
    IsFirst w (Idealize.ShloMosaic.sortedFrom before z) := by
  obtain ⟨h, r, e, h1, h2⟩ := head_stableSort w before hb (List.finRange n) (List.pairwise_lt_finRange n)
    (by intro e; have := List.mem_finRange z; rw [e] at this; exact absurd this List.not_mem_nil)
  have hs : Idealize.ShloMosaic.sortedFrom before z = h := by
    unfold Idealize.ShloMosaic.sortedFrom Idealize.ShloMosaic.sortPositions
    have : ∀ (l : List (Fin n)) (hl : z.val < l.length), l = h :: r → l.get ⟨z.val, hl⟩ = h := by
      rintro l hl rfl
      simp [hz]
    exact this _ _ e
  rw [hs]
  exact ⟨fun j => h1 j (List.mem_finRange j), fun j hj => h2 j (List.mem_finRange j) hj⟩

end

end Cert.Proof.Whole

end
-- ==== Proof.Whole.Search.lean ====
module

public import proofs.«01_k».proof.Proof.Whole.States
public import proofs.«01_k».proof.Proof.Whole.First
public import Idealize.ShloMosaic.Lib.Pointwise

/-!
# What the first call finds, over the extended reals

The scores of a row against the 65536 keys (`score`), the contents of the running minimum and of its block
after every grid point, and the conclusion: the row of indices the first call writes holds, for every batch
row, the first position at which the score is least (`search`). No assumption on the inputs is needed.
-/

@[expose] public section

namespace Cert.Proof.Whole

open Cert.KernelIdeal Cert.KernelIdeal.Gen
open Idealize Idealize.ShloMosaic Idealize.ShloMosaic.TcCoe

set_option maxRecDepth 16384

/-- The mean of the states of row `i`, as the kernel computes it: the sum times the constant `2⁻⁹`. -/
noncomputable def meanK (h : S8x512x768.Idx → EReal) (i : Fin 8) (x : Fin 768) : EReal :=
  (∑ s : Fin 512, h (ix3 i s x)) * Ideal.ofBits .f32 0x3B000000#32

/-- The score of key `j` for row `i`: the key's square less twice its product with the mean. -/
noncomputable def score (h : S8x512x768.Idx → EReal) (k : S65536x768.Idx → EReal) (i : Fin 8) (j : Fin 65536) : EReal :=
  ∑ x : Fin 768, k (ix2 j x) * k (ix2 j x) + ∑ x : Fin 768, meanK h i x * Ideal.ofBits .f32 0xC0000000#32 * k (ix2 j x)

/-- Signed least: the fold is at most its start and every word, and is one of them. -/
theorem fold_minsi {ι : Type} [DecidableEq ι] (b : BitVec 32) (f : ι → BitVec 32) (s : Finset ι) :
    ((∀ x ∈ s, (s.fold IntOp.minsi b f).toInt ≤ (f x).toInt) ∧ (s.fold IntOp.minsi b f).toInt ≤ b.toInt)
      ∧ (s.fold IntOp.minsi b f = b ∨ ∃ x ∈ s, s.fold IntOp.minsi b f = f x) := by
  induction s using Finset.induction_on with
  | empty => exact ⟨⟨fun x hx => absurd hx (Finset.notMem_empty x), le_rfl⟩, .inl rfl⟩
  | insert a s ha ih =>
    rw [Finset.fold_insert ha]
    obtain ⟨⟨h1, h2⟩, h3⟩ := ih
    unfold IntOp.minsi at *
    split
    · rename_i hlt
      have hlt : (f a).toInt < _ := BitVec.slt_iff_toInt_lt.1 hlt
      exact ⟨⟨fun x hx => (Finset.mem_insert.1 hx).elim (fun e => e ▸ le_rfl) fun hx => hlt.le.trans (h1 x hx), hlt.le.trans h2⟩,
        .inr ⟨a, Finset.mem_insert_self _ _, rfl⟩⟩
    · rename_i hlt
      have hlt := not_lt.1 fun h => hlt (BitVec.slt_iff_toInt_lt.2 h)
      exact ⟨⟨fun x hx => (Finset.mem_insert.1 hx).elim (fun e => e ▸ hlt) (h1 x), h2⟩,
        h3.imp id fun ⟨x, hx, e⟩ => ⟨x, Finset.mem_insert_of_mem hx, e⟩⟩

section
variable (W : Valuation τ sig (Elt Ideal))

/-- The states and the keys the first call reads. -/
abbrev statesOf : S8x512x768.Idx → EReal := W (Proc.devRef .tc main_arg0)
abbrev keysIn : S65536x768.Idx → EReal := W (Proc.devRef .tc main_arg1)

theorem query_apply (i : Fin 8) (x : Fin 768) : query W (ix2 i x) = meanK (statesOf W) i x * Ideal.ofBits .f32 0xC0000000#32 := by
  unfold query
  rw [blk0_0]
  pointwise [k0_pay2, k0_pay1, meanK]

/-- The scores of block `t`, one per lane. -/
theorem scores_apply (t : ℕ) (ht : t < 16) (i : Fin 8) (l : Fin 4096) :
    k0_pay4 (F := Ideal) (blk0 W 5 (pt0 t)) (query W) (ix2 i l) = score (statesOf W) (keysIn W) i (pos t ht l) := by
  have e : ∀ x : Fin 768, (blk0 W 5 (pt0 t) : S4096x768.Idx → EReal) (ix2 l x) = keysIn W (ix2 (pos t ht l) x) := fun x => by
    refine (blk0_5 W (pt0 t) (ix2 l x)).trans (congrArg (keysIn W) ?_)
    refine congrArg (fun r => ix2 r x) (Fin.ext ?_)
    show t % 16 * 4096 + l.val = t * 4096 + l.val
    rw [Nat.mod_eq_of_lt ht]
  pointwise [k0_pay4]
  unfold score
  simp only [e, query_apply]

/-- The running minimum and its block after point `n`, at a lane. -/
theorem min_step (n : ℕ) (hn : n + 1 < 16) (i : Fin 8) (l : Fin 4096) :
    minAt W (n + 1) (ix2 i l) = if score (statesOf W) (keysIn W) i (pos (n + 1) hn l) < minAt W n (ix2 i l)
      then score (statesOf W) (keysIn W) i (pos (n + 1) hn l) else minAt W n (ix2 i l) := by
  show k0_pay9 _ _ _ _ = _
  rw [← scores_apply W (n + 1) hn i l]
  pointwise [k0_pay9, k0_pay7]

theorem tile_step (n : ℕ) (hn : n + 1 < 16) (i : Fin 8) (l : Fin 4096) :
    tileAt W (n + 1) (ix2 i l) = if score (statesOf W) (keysIn W) i (pos (n + 1) hn l) < minAt W n (ix2 i l)
      then BitVec.ofNat 32 (n + 1) else tileAt W n (ix2 i l) := by
  show k0_pay8 _ _ _ _ _ _ = _
  rw [← scores_apply W (n + 1) hn i l]
  pointwise [k0_pay8, k0_pay7]
  rw [coord0, show (pt0 (n + 1)).val = n + 1 from Nat.mod_eq_of_lt hn]

theorem min_zero (i : Fin 8) (l : Fin 4096) : minAt W 0 (ix2 i l) = score (statesOf W) (keysIn W) i (pos 0 (by omega) l) := by
  rw [← scores_apply W 0 (by omega) i l]
  show k0_pay5 _ _ _ = _
  pointwise [k0_pay5]

theorem tile_zero (i : Fin 8) (l : Fin 4096) : tileAt W 0 (ix2 i l) = 0#32 := by
  show k0_pay6 _ = _
  pointwise [k0_pay6]

/-- What a lane holds at the end: the least of its sixteen scores, and the first block at which it is taken. -/
theorem lane_first (i : Fin 8) (l : Fin 4096) : ∃ h : (tileAt W 15 (ix2 i l)).toNat < 16,
    minAt W 15 (ix2 i l) = score (statesOf W) (keysIn W) i (pos (tileAt W 15 (ix2 i l)).toNat h l)
      ∧ (∀ t (ht : t < 16), minAt W 15 (ix2 i l) ≤ score (statesOf W) (keysIn W) i (pos t ht l))
      ∧ ∀ t (ht : t < 16), t < (tileAt W 15 (ix2 i l)).toNat → minAt W 15 (ix2 i l) < score (statesOf W) (keysIn W) i (pos t ht l) := by
  let s : ℕ → EReal := fun t => if ht : t < 16 then score (statesOf W) (keysIn W) i (pos t ht l) else ⊤
  have hs : ∀ t (ht : t < 16), s t = score (statesOf W) (keysIn W) i (pos t ht l) := fun t ht => dif_pos ht
  obtain ⟨h1, h2, h3, h4⟩ := running_first s (fun n => minAt W n (ix2 i l)) (fun n => (tileAt W n (ix2 i l)).toNat)
    ((min_zero W i l).trans (hs 0 (by omega)).symm) (by show (tileAt W 0 (ix2 i l)).toNat = 0; rw [tile_zero]; rfl) 15
    (fun n hn => by rw [hs (n + 1) (by omega)]; exact min_step W n (by omega) i l)
    (fun n hn => by
      show (tileAt W (n + 1) (ix2 i l)).toNat = _
      rw [hs (n + 1) (by omega), tile_step W n (by omega) i l]
      split
      · show (n + 1) % 2 ^ 32 = n + 1
        omega
      · rfl) 15 le_rfl
  have hT : (tileAt W 15 (ix2 i l)).toNat < 16 := Nat.lt_succ_of_le h1
  exact ⟨hT, h2.trans (hs _ hT), fun t ht => (h3 t (by omega)).trans (hs t ht).le, fun t ht h => (h4 t h).trans_le (hs t ht).le⟩

/-- The position a lane stands for, as a word and as a number. -/
theorem lane_word (T : BitVec 32) (hT : T.toNat < 16) (l : Fin 4096) :
    (IntOp.addi (IntOp.muli T 4096#32) (BitVec.ofNat 32 l.val)).toNat = T.toNat * 4096 + l.val := by
  have := l.isLt
  unfold IntOp.addi IntOp.muli
  rw [BitVec.toNat_add, BitVec.toNat_mul, BitVec.toNat_ofNat, BitVec.toNat_ofNat]
  omega

theorem ofBits_inf_f32 : Ideal.ofBits .f32 0x7F800000#32 = ⊤ := by
  simp [Ideal.ofBits, Ideal.ieee]

/-- The word of row `i` in the row of indices, as the two reductions over the lanes. -/
theorem idxRow_apply (i : Fin 8) : idxRow W (ix2 0 ⟨i.val, by have := i.isLt; omega⟩)
    = Finset.fold IntOp.minsi (2147483647#32) (fun l : Fin 4096 =>
        if minAt W 15 (ix2 i l) = Finset.fold min (⊤ : EReal) (fun l : Fin 4096 => minAt W 15 (ix2 i l)) Finset.univ
        then IntOp.addi (IntOp.muli (tileAt W 15 (ix2 i l)) 4096#32) (BitVec.ofNat 32 l.val) else 2147483647#32) Finset.univ := by
  unfold idxRow
  rw [← ofBits_inf_f32]
  pointwise [k0_pay10]

/-- The word of a lane that holds the least value, and the sentinel elsewhere. -/
noncomputable def laneWord (M : Fin 4096 → EReal) (T : Fin 4096 → BitVec 32) (m : EReal) (l : Fin 4096) : BitVec 32 :=
  if M l = m then IntOp.addi (IntOp.muli (T l) 4096#32) (BitVec.ofNat 32 l.val) else 2147483647#32

theorem laneWord_of_eq {M : Fin 4096 → EReal} {T : Fin 4096 → BitVec 32} {m : EReal} {l : Fin 4096} (h : M l = m) (hT : (T l).toNat < 16) :
    (laneWord M T m l).toNat = (T l).toNat * 4096 + l.val := by
  unfold laneWord
  rw [if_pos h, lane_word _ hT]

/-- The two reductions over the lanes: the least of the words of the lanes that hold the least value is the first
position of the least score. -/
theorem search_lanes (s : Fin 65536 → EReal) (M : Fin 4096 → EReal) (T : Fin 4096 → BitVec 32) (hT : ∀ l, (T l).toNat < 16)
    (hM : ∀ l, M l = s (pos (T l).toNat (hT l) l)) (hle : ∀ l t (ht : t < 16), M l ≤ s (pos t ht l))
    (hlt : ∀ l t (ht : t < 16), t < (T l).toNat → M l < s (pos t ht l)) (m : EReal) (hm : m = Finset.fold min (⊤ : EReal) M Finset.univ)
    (g : BitVec 32) (hg : g = Finset.fold IntOp.minsi (2147483647#32) (laneWord M T m) Finset.univ) :
    ∃ h : g.toNat < 65536, IsFirst s ⟨g.toNat, h⟩ := by
  have hmin : ∀ l : Fin 4096, m ≤ M l := fun l => hm ▸ (Finset.fold_min_le _).2 (.inr ⟨l, Finset.mem_univ l, le_rfl⟩)
  have hex : ∃ l : Fin 4096, M l = m := by
    by_contra hno
    have hl : ∀ l : Fin 4096, m < M l := fun l => lt_of_le_of_ne (hmin l) fun e => hno ⟨l, e.symm⟩
    exact absurd ((Finset.lt_fold_min (c := m)).2 ⟨(hl ⟨0, by omega⟩).trans_le le_top, fun l _ => hl l⟩) (by rw [← hm]; exact lt_irrefl m)
  obtain ⟨⟨h1, -⟩, h3⟩ := fold_minsi (2147483647#32) (laneWord M T m) Finset.univ
  rw [← hg] at h1 h3
  have hsmall : ∀ l, M l = m → (laneWord M T m l).toNat < 65536 := fun l hl => by
    have := l.isLt
    have := hT l
    rw [laneWord_of_eq hl (hT l)]
    omega
  have hint : ∀ w : BitVec 32, w.toNat < 65536 → w.toInt = w.toNat := fun w hw => BitVec.toInt_eq_toNat_of_lt (by omega)
  obtain ⟨l₀, hl₀⟩ := hex
  have hg₀ : g.toInt ≤ ((laneWord M T m l₀).toNat : ℤ) := (h1 l₀ (Finset.mem_univ _)).trans (hint _ (hsmall l₀ hl₀)).le
  have hbig : ((2147483647#32 : BitVec 32)).toInt = 2147483647 := by decide
  have hs₀ := hsmall l₀ hl₀
  have hne : g ≠ 2147483647#32 := fun e => by rw [e, hbig] at hg₀; omega
  obtain ⟨l₁, -, hl₁⟩ := h3.resolve_left hne
  have hm₁ : M l₁ = m := by
    by_contra hno
    exact hne (hl₁.trans (if_neg hno))
  have hg₁ : g.toInt = g.toNat := by rw [hl₁]; exact hint _ (hsmall l₁ hm₁)
  refine first_of_lanes s M (fun l => (T l).toNat) hT hM hle hlt m hmin g.toNat (fun l hl => ?_) ⟨l₁, hm₁, by rw [hl₁]; exact laneWord_of_eq hm₁ (hT l₁)⟩
  have h := h1 l (Finset.mem_univ _)
  rw [hg₁, hint _ (hsmall l hl), laneWord_of_eq hl (hT l)] at h
  exact_mod_cast h

/-- The row of indices holds, for row `i`, the first position of its least score. -/
theorem search (i : Fin 8) : ∃ h : (word (idxRow W) i).toNat < 65536, IsFirst (score (statesOf W) (keysIn W) i) ⟨(word (idxRow W) i).toNat, h⟩ :=
  search_lanes (score (statesOf W) (keysIn W) i) (fun l => minAt W 15 (ix2 i l)) (fun l => tileAt W 15 (ix2 i l))
    (fun l => (lane_first W i l).1) (fun l => (lane_first W i l).2.1) (fun l => (lane_first W i l).2.2.1) (fun l => (lane_first W i l).2.2.2)
    _ rfl _ (idxRow_apply W i)

/-- The gate of row `i`, written out; it is the same in every lane. -/
theorem gate_apply (i : Fin 8) (l : Fin 128) : gate W (ix2 i l) = Ideal.logistic
    (∑ u : Fin 192, max (∑ x : Fin 768, meanK (statesOf W) i x * (W (Proc.devRef .tc main_arg2) : S768x192.Idx → EReal) (ix2 x u)
        + (W (Proc.devRef .tc main_v0) : S1x192.Idx → EReal) (ix2 0 u)) 0 * (W (Proc.devRef .tc main_v1) : S1x192.Idx → EReal) (ix2 0 u)
      + (W (Proc.devRef .tc main_v2) : S1x1.Idx → EReal) (ix2 0 0)) := by
  unfold gate
  rw [blk0_0, blk0_1, blk0_2, blk0_3, blk0_4]
  pointwise [k0_pay3, k0_pay1, meanK]

end

end Cert.Proof.Whole

end
-- ==== Proof.Whole.Reference.lean ====
module

public import proofs.«01_k».proof.Proof.Gen.ReferenceIdeal.Run
public import proofs.«01_k».proof.Proof.Whole.First
public import Idealize.ShloMosaic.Lib.Pointwise
public import Idealize.ShloMosaic.Lib.IdealHost
public import Idealize.ShloMosaic.Lib.Routing.Ops

/-!
# What the reference computes, over the extended reals

The reference's result is cut into its parts: the mean, the negated distances, the position of the greatest
of them, the rows taken at those positions, the gate, and the mixture of states and rows. Each part is then
read at an index. The position is characterised by `IsFirst`: the first key at the least distance.
-/

@[expose] public section

namespace Cert.Proof.Whole.Reference

open Cert.ReferenceIdeal Cert.ReferenceIdeal.Gen Cert.ReferenceIdeal.Value
open Idealize.ShloMosaic Idealize.ShloMosaic.TcCoe Idealize.SL.Sem

set_option maxRecDepth 16384

noncomputable section

variable {F : FTy → Type} [FloatOps F]

/-- The mean of the states of each row. -/
def meanR (h : FVec F S8x512x768 .f32) : FVec F S8x768 .f32 :=
  Host.divf (Host.reduceAdd h (constant S_ .f32 0x00000000#32) reducesTo_S8x512x768_S8x768_d1 h_S_) (broadcastInDim S8x768 ![] bcast_S_S8x768 (constant S_ .f32 0x44000000#32))

/-- The negated squared distances of the means to the keys. -/
def farR (h : FVec F S8x512x768 .f32) (k : FVec F S65536x768 .f32) : FVec F S8x65536 .f32 :=
  Host.negf (addf (subf (broadcastInDim S8x65536 ![0, 1] bcast_S8x1_S8x65536_0_1 (broadcastInDim S8x1 ![0] bcast_S8_S8x1_0 (Host.reduceAdd (mulf (meanR h) (meanR h)) (constant S_ .f32 0x00000000#32) reducesTo_S8x768_S8_d1 h_S_))) (mulf (broadcastInDim S8x65536 ![] bcast_S_S8x65536 (constant S_ .f32 0x40000000#32)) (Host.dotGeneral dot_S8x768_S768x65536_S8x65536_1_0_0_1_n_n none (meanR h) (transpose S768x65536 [1, 0] k transposes_S65536x768_S768x65536_1_0)))) (broadcastInDim S8x65536 ![0, 1] bcast_S1x65536_S8x65536_0_1 (broadcastInDim S1x65536 ![1] bcast_S65536_S1x65536_1 (Host.reduceAdd (mulf k k) (constant S_ .f32 0x00000000#32) reducesTo_S65536x768_S65536_d1 h_S_))))

/-- The position of the nearest key of each row. -/
def nearestR (h : FVec F S8x512x768 .f32) (k : FVec F S65536x768 .f32) : IVec S8 32 :=
  shapeCast _ (extractStridedSlice S8x1 ![0, 0] ((Host.topK S8x10 1 (FloatOps.cmpfTotal .gt) (farR h k) sliceFits_S8x65536_S8x10).2) slices_S8x10_S8x1_0_0) shapeCasts_S8x1_S8

/-- Row numbers as a column, a negative one counted from the end. -/
def rowsR (I : IVec S8 32) : IVec S8x1 32 :=
  broadcastInDim S8x1 ![0] bcast_S8_S8x1_0 (select (cmpi .slt I (broadcastInDim S8 ![] bcast_S_S8 (constantI S_ 32 0#32))) (addi I (broadcastInDim S8 ![] bcast_S_S8 (constantI S_ 32 65536#32))) I)

/-- The keys at given positions. -/
def takenR (k : FVec F S65536x768 .f32) (I : IVec S8 32) : FVec F S8x768 .f32 :=
  select (broadcastInDim S8x768 ![0] bcast_S8_S8x768_0 (Host.reduce IntOp.andi (andi (cmpi .sge (rowsR I) (broadcastInDim S8x1 ![] bcast_S_S8x1 (constantI S_ 32 0#32))) (cmpi .sle (rowsR I) (broadcastInDim S8x1 ![0, 1] bcast_S1x1_S8x1_0_1 (broadcastInDim S1x1 ![1] bcast_S1_S1x1_1 (constantI S1 32 65535#32))))) (constantI S_ 1 1#1) reducesTo_S8x1_S8_d1 h_S_)) (Host.gather gather_S65536x768_S8x1_S8x768_1_0_n_n_0_1_1768 k (rowsR I)) (broadcastInDim S8x768 ![] bcast_S_S8x768 (constant S_ .f32 0x7FC00000#32))

/-- The gate of each row. -/
def gateR (h : FVec F S8x512x768 .f32) (w1 : FVec F S768x192 .f32) (b1 : FVec F S192 .f32) (w2 : FVec F S192x1 .f32) (b2 : FVec F S1 .f32) : FVec F S8x1 .f32 :=
  Host.divf (broadcastInDim S8x1 ![] bcast_S_S8x1 (constant S_ .f32 0x3F800000#32)) (addf (broadcastInDim S8x1 ![] bcast_S_S8x1 (constant S_ .f32 0x3F800000#32)) (Host.exp (Host.negf (addf (Host.dotGeneral dot_S8x192_S192x1_S8x1_1_0_0_1_n_n none (maximumf (addf (Host.dotGeneral dot_S8x768_S768x192_S8x192_1_0_0_1_n_n none (meanR h) w1) (broadcastInDim S8x192 ![0, 1] bcast_S1x192_S8x192_0_1 (broadcastInDim S1x192 ![1] bcast_S192_S1x192_1 b1))) (broadcastInDim S8x192 ![] bcast_S_S8x192 (constant S_ .f32 0x00000000#32))) w2) (broadcastInDim S8x1 ![0, 1] bcast_S1x1_S8x1_0_1 (broadcastInDim S1x1 ![1] bcast_S1_S1x1_1 b2))))))

/-- The mixture of states and taken keys by the gates. -/
def mixR (h : FVec F S8x512x768 .f32) (G : FVec F S8x1 .f32) (R : FVec F S8x768 .f32) : FVec F S8x8x512x768 .f32 :=
  addf (mulf (broadcastInDim S8x8x512x768 ![0, 1, 2, 3] bcast_S8x1x1x1_S8x8x512x768_0_1_2_3 (subf (broadcastInDim S8x1x1x1 ![] bcast_S_S8x1x1x1 (constant S_ .f32 0x3F800000#32)) (broadcastInDim S8x1x1x1 ![0, 3] bcast_S8x1_S8x1x1x1_0_3 G))) (broadcastInDim S8x8x512x768 ![0, 1, 2, 3] bcast_S1x8x512x768_S8x8x512x768_0_1_2_3 (broadcastInDim S1x8x512x768 ![1, 2, 3] bcast_S8x512x768_S1x8x512x768_1_2_3 h))) (mulf (broadcastInDim S8x8x512x768 ![0, 1, 2, 3] bcast_S8x1x1x1_S8x8x512x768_0_1_2_3 (broadcastInDim S8x1x1x1 ![0, 3] bcast_S8x1_S8x1x1x1_0_3 G)) (broadcastInDim S8x8x512x768 ![0, 1, 2, 3] bcast_S1x8x512x768_S8x8x512x768_0_1_2_3 (broadcastInDim S1x8x512x768 ![1, 2, 3] bcast_S8x512x768_S1x8x512x768_1_2_3 (broadcastInDim S8x512x768 ![0, 1, 2] bcast_S8x1x768_S8x512x768_0_1_2 (broadcastInDim S8x1x768 ![0, 2] bcast_S8x768_S8x1x768_0_2 R)))))

/-- The reference's result is put together of these parts. -/
theorem result_eq (m : (ℓ : Loc nD τ sig) → Buf (Elt F) ℓ) (c : Dev nD) : res_main_v49 m c
    = mixR (m ((c.tc : Thread nD τ).loc main_arg0))
        (gateR (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)))
        (takenR (m ((c.tc : Thread nD τ).loc main_arg1)) (nearestR (m ((c.tc : Thread nD τ).loc main_arg0)) (m ((c.tc : Thread nD τ).loc main_arg1)))) := rfl

/-! ### The parts at an index -/

theorem meanR_apply (h : FVec Ideal S8x512x768 .f32) (i : Fin 8) (x : Fin 768) :
    meanR h (ix2 i x) = Ideal.div (∑ s : Fin 512, h (ix3 i s x)) (Ideal.ofBits .f32 0x44000000#32) := by
  pointwise [meanR]

/-- The squared distance of row `i`'s mean to key `j`, as the reference expands it. -/
def dist (h : FVec Ideal S8x512x768 .f32) (k : FVec Ideal S65536x768 .f32) (i : Fin 8) (j : Fin 65536) : EReal :=
  ∑ x : Fin 768, meanR h (ix2 i x) * meanR h (ix2 i x) - Ideal.ofBits .f32 0x40000000#32 * ∑ x : Fin 768, meanR h (ix2 i x) * k (ix2 j x)
    + ∑ x : Fin 768, k (ix2 j x) * k (ix2 j x)

theorem farR_apply (h : FVec Ideal S8x512x768 .f32) (k : FVec Ideal S65536x768 .f32) (i : Fin 8) (j : Fin 65536) : farR h k (ix2 i j) = -dist h k i j := by
  pointwise [farR, dist]

/-- The index of the first of the `q` greatest along a row: the position a stable sort of the row puts first. -/
theorem topK_first {α : Type} {r n q : ℕ} (gt : α → α → BitVec 1) (x : (⟨2, ![r, n]⟩ : Shape).Idx → α)
    (h : (⟨2, ![r, n]⟩ : Shape).Slices (fun _ => 0) ⟨2, ![r, q]⟩) (i : Fin r) (z : Fin q) (hz : z.val = 0) (hn : 0 < n) :
    (Host.topK ⟨2, ![r, q]⟩ 1 gt x h).2 (ix2 i z) = BitVec.ofNat 32 (sortedFrom (fun a b => gt (x (ix2 i a)) (x (ix2 i b)) == 1#1) ⟨0, hn⟩).val := by
  have al : ∀ a : Fin n, (Shape.Idx.along (s := ⟨2, ![r, n]⟩) (ix2 i ⟨0, hn⟩) (1 : Fin 2) a : (⟨2, ![r, n]⟩ : Shape).Idx) = ix2 i a := fun a => by
    funext b
    fin_cases b <;> rfl
  have st : ∀ j : (⟨2, ![r, n]⟩ : Shape).Idx, j = ix2 i ⟨0, hn⟩ →
      (Host.sort2 ⟨2, ![r, n]⟩ 1 (fun l r => gt l.1 r.1) x (fun i => iotaInDim ⟨2, ![r, n]⟩ 32 1 i)).2 j
        = BitVec.ofNat 32 (sortedFrom (fun a b => gt (x (ix2 i a)) (x (ix2 i b)) == 1#1) ⟨0, hn⟩).val := by
    rintro j rfl
    show BitVec.ofNat 32 (sortedFrom (fun a b => gt (x (Shape.Idx.along (s := ⟨2, ![r, n]⟩) (ix2 i ⟨0, hn⟩) (1 : Fin 2) a))
        (x (Shape.Idx.along (s := ⟨2, ![r, n]⟩) (ix2 i ⟨0, hn⟩) (1 : Fin 2) b)) == 1#1) ⟨0, hn⟩).val = _
    refine congrArg (fun B : Fin n → Fin n → Bool => BitVec.ofNat 32 (sortedFrom B ⟨0, hn⟩).val) (funext fun a => funext fun b => ?_)
    exact congrArg₂ (fun u v => gt (x u) (x v) == 1#1) (al a) (al b)
  refine st _ ?_
  funext b
  refine Fin.ext ?_
  fin_cases b
  · exact Nat.zero_add _
  · exact (Nat.zero_add _).trans hz

/-- The position taken for row `i` is the first key at the least distance. -/
theorem nearestR_first (h : FVec Ideal S8x512x768 .f32) (k : FVec Ideal S65536x768 .f32) (i : Fin 8) :
    ∃ g : Fin 65536, nearestR h k (ix1 i) = BitVec.ofNat 32 g.val ∧ IsFirst (dist h k i) g := by
  have e : nearestR h k (ix1 i) = (Host.topK S8x10 1 (FloatOps.cmpfTotal .gt) (farR h k) sliceFits_S8x65536_S8x10).2 (ix2 i 0) := by
    pointwise [nearestR]
  let before : Fin 65536 → Fin 65536 → Bool := fun a b => FloatOps.cmpfTotal (F := Ideal) (φ := .f32) .gt (farR h k (ix2 i a)) (farR h k (ix2 i b)) == 1#1
  have hb : ∀ a b, before a b = true ↔ dist h k i a < dist h k i b := fun a b => by
    show (BitVec.ofBool (decide (farR h k (ix2 i b) < farR h k (ix2 i a))) == 1#1) = true ↔ _
    have hn : farR h k (ix2 i b) < farR h k (ix2 i a) ↔ dist h k i a < dist h k i b := by
      rw [farR_apply, farR_apply]
      exact EReal.neg_lt_neg_iff
    rw [← hn]
    by_cases hd : farR h k (ix2 i b) < farR h k (ix2 i a) <;> simp [hd]
  refine ⟨sortedFrom before ⟨0, by omega⟩, e.trans ?_, isFirst_sortedFrom _ before hb ⟨0, by omega⟩ rfl⟩
  exact topK_first (FloatOps.cmpfTotal (F := Ideal) (φ := .f32) .gt) (farR h k) sliceFits_S8x65536_S8x10 i 0 rfl (by omega)

/-- Row numbers below 65536 are kept. -/
theorem rowsR_apply (I : IVec S8 32) (i : Fin 8) (hI : (I (ix1 i)).toNat < 65536) : rowsR I (ix2 i 0) = I (ix1 i) := by
  have e : rowsR I (ix2 i 0) = Scalar.select (IntOp.cmpi .slt (I (ix1 i)) 0#32) (IntOp.addi (I (ix1 i)) 65536#32) (I (ix1 i)) := by
    pointwise [rowsR]
  have hi : (I (ix1 i)).toInt = (I (ix1 i)).toNat := BitVec.toInt_eq_toNat_of_lt (by omega)
  have hc : IntOp.cmpi .slt (I (ix1 i)) 0#32 = 0#1 := by
    show BitVec.ofBool ((I (ix1 i)).slt 0#32) = 0#1
    rw [show (I (ix1 i)).slt 0#32 = false from by simp [BitVec.slt, hi]]
    rfl
  rw [e, hc]
  rfl

/-- The rows taken at positions below 65536 are the keys there. -/
theorem takenR_apply (k : FVec Ideal S65536x768 .f32) (I : IVec S8 32) (i : Fin 8) (x : Fin 768) (g : Fin 65536) (hI : I (ix1 i) = BitVec.ofNat 32 g.val) :
    takenR k I (ix2 i x) = k (ix2 g x) := by
  have hn : (I (ix1 i)).toNat = g.val := by rw [hI]; exact Nat.mod_eq_of_lt (by have := g.isLt; omega)
  have hlt : (I (ix1 i)).toNat < 65536 := hn ▸ g.isLt
  have hi : (I (ix1 i)).toInt = (I (ix1 i)).toNat := BitVec.toInt_eq_toNat_of_lt (by omega)
  have hr := rowsR_apply I i hlt
  have e : takenR k I (ix2 i x) = Scalar.select
      (Finset.fold IntOp.andi (1#1) (fun z : Fin 1 => IntOp.andi (IntOp.cmpi .sge (rowsR I (ix2 i z)) 0#32) (IntOp.cmpi .sle (rowsR I (ix2 i z)) 65535#32)) Finset.univ)
      (Host.gather gather_S65536x768_S8x1_S8x768_1_0_n_n_0_1_1768 k (rowsR I) (ix2 i x)) (Ideal.ofBits .f32 2143289344#32) := by
    pointwise [takenR]
  have hc : ∀ z : Fin 1, IntOp.andi (IntOp.cmpi .sge (rowsR I (ix2 i z)) 0#32) (IntOp.cmpi .sle (rowsR I (ix2 i z)) 65535#32) = 1#1 := fun z => by
    obtain rfl : z = 0 := Subsingleton.elim _ _
    rw [hr]
    have h1 : (0#32).sle (I (ix1 i)) = true := by simp [BitVec.sle, hi]
    have h2 : (I (ix1 i)).sle 65535#32 = true := by simp [BitVec.sle, hi]; omega
    show BitVec.ofBool ((0#32).sle (I (ix1 i))) &&& BitVec.ofBool ((I (ix1 i)).sle 65535#32) = 1#1
    rw [h1, h2]
    rfl
  rw [e, Finset.fold_congr (g := fun _ => 1#1) (fun z _ => hc z)]
  rw [show Finset.fold IntOp.andi (1#1) (fun _ : Fin 1 => 1#1) Finset.univ = 1#1 from by decide]
  exact Routing.gather_row _ rfl rfl rfl rfl rfl k (rowsR I) i x g (hr.trans hI) (by decide)

theorem gateR_apply (h : FVec Ideal S8x512x768 .f32) (w1 : FVec Ideal S768x192 .f32) (b1 : FVec Ideal S192 .f32) (w2 : FVec Ideal S192x1 .f32) (b2 : FVec Ideal S1 .f32)
    (i : Fin 8) : gateR h w1 b1 w2 b2 (ix2 i 0) = Ideal.logistic
      (∑ u : Fin 192, max (∑ x : Fin 768, meanR h (ix2 i x) * w1 (ix2 x u) + b1 (ix1 u)) 0 * w2 (ix2 u 0) + b2 (ix1 0)) := by
  unfold Ideal.logistic
  pointwise [gateR]

theorem mixR_apply (h : FVec Ideal S8x512x768 .f32) (G : FVec Ideal S8x1 .f32) (R : FVec Ideal S8x768 .f32) (a b : Fin 8) (s : Fin 512) (x : Fin 768) :
    mixR h G R (ix4 a b s x) = (1 - G (ix2 a 0)) * h (ix3 b s x) + G (ix2 a 0) * R (ix2 b x) := by
  pointwise [mixR]

end

end Cert.Proof.Whole.Reference

end
-- ==== Proof.Whole.Equation.lean ====
module

public import proofs.«01_k».proof.Proof.Whole.Search
public import proofs.«01_k».proof.Proof.Whole.Reference

/-!
# The two computations agree

The mean, the gate and, where states and keys are finite, the order of the scores and the mixture are the same
in the kernel's spelling and in the reference's.
-/

@[expose] public section

namespace Cert.Proof.Whole

open Idealize.ShloMosaic Idealize.ShloMosaic.TcCoe
open Cert.Proof.Whole.Reference (meanR dist gateR mixR takenR nearestR)

set_option maxRecDepth 16384

theorem ofBits_512 : Ideal.ofBits .f32 0x44000000#32 = ((512 : ℝ) : EReal) := by
  simp [Ideal.ofBits, Ideal.ieee, -EReal.coe_mul]; norm_num

theorem ofBits_inv_512 : Ideal.ofBits .f32 0x3B000000#32 = ((1 / 512 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

/-- Dividing a sum by 512 is multiplying it by the constant `2⁻⁹`. -/
theorem mean_eq (h : (⟨3, ![8, 512, 768]⟩ : Shape).Idx → EReal) (i : Fin 8) (x : Fin 768) : meanR (F := Ideal) h (ix2 i x) = meanK h i x := by
  rw [Reference.meanR_apply, ofBits_512, Ideal.div_coe (by norm_num : (512 : ℝ) ≠ 0)]
  unfold meanK
  rw [ofBits_inv_512]

/-- A sum of reals is a real. -/
theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

section
variable (h : (⟨3, ![8, 512, 768]⟩ : Shape).Idx → EReal) (k : (⟨2, ![65536, 768]⟩ : Shape).Idx → EReal)
variable (h' : (⟨3, ![8, 512, 768]⟩ : Shape).Idx → ℝ) (k' : (⟨2, ![65536, 768]⟩ : Shape).Idx → ℝ)

/-- Where states and keys are finite, the scores order the keys as the distances do: they differ by the square of the mean. -/
theorem score_lt_iff (eh : ∀ y, h y = ((h' y : ℝ) : EReal)) (ek : ∀ y, k y = ((k' y : ℝ) : EReal)) (i : Fin 8) (a b : Fin 65536) :
    score h k i a < score h k i b ↔ dist h k i a < dist h k i b := by
  obtain ⟨q, hq⟩ : ∃ q : Fin 768 → ℝ, ∀ x, meanK h i x = ((q x : ℝ) : EReal) := by
    refine ⟨fun x => (∑ s : Fin 512, h' (ix3 i s x)) * (1 / 512), fun x => ?_⟩
    unfold meanK
    simp only [eh]
    rw [coe_sum, ofBits_inv_512, ← EReal.coe_mul]
  have hs : ∀ j, score h k i j = ((∑ x, k' (ix2 j x) * k' (ix2 j x) + ∑ x, q x * (-2) * k' (ix2 j x) : ℝ) : EReal) := fun j => by
    unfold score
    simp only [hq, ek, ofBits_neg_two, ← EReal.coe_mul]
    rw [coe_sum, coe_sum, ← EReal.coe_add]
  have hd : ∀ j, dist h k i j = ((∑ x, q x * q x - 2 * ∑ x, q x * k' (ix2 j x) + ∑ x, k' (ix2 j x) * k' (ix2 j x) : ℝ) : EReal) := fun j => by
    unfold Reference.dist
    simp only [mean_eq, hq, ek, ofBits_two, ← EReal.coe_mul]
    rw [coe_sum, coe_sum, coe_sum, ← EReal.coe_mul, ← EReal.coe_sub, ← EReal.coe_add]
  have e : ∀ j, ∑ x, q x * (-2) * k' (ix2 j x) = -(2 * ∑ x, q x * k' (ix2 j x)) := fun j => by
    rw [Finset.mul_sum, ← Finset.sum_neg_distrib]
    exact Finset.sum_congr rfl fun x _ => by ring
  rw [hs, hs, hd, hd, EReal.coe_lt_coe_iff, EReal.coe_lt_coe_iff, e, e]
  constructor <;> intro hlt <;> linarith

end

/-- The logistic function takes real values. -/
theorem logistic_real (x : EReal) : ∃ w : ℝ, Ideal.logistic x = ((w : ℝ) : EReal) := by
  induction x with
  | bot => exact ⟨0, Ideal.logistic_bot⟩
  | coe r => exact ⟨_, Ideal.logistic_coe r⟩
  | top => exact ⟨1, Ideal.logistic_top⟩

/-- On reals, `h + w (r − h)` is `(1 − w) h + w r`. -/
theorem blend_real (w h r : ℝ) : blendAt (F := Ideal) ((w : ℝ) : EReal) ((h : ℝ) : EReal) ((r : ℝ) : EReal)
    = (1 - ((w : ℝ) : EReal)) * ((h : ℝ) : EReal) + ((w : ℝ) : EReal) * ((r : ℝ) : EReal) := by
  show ((h : ℝ) : EReal) + ((w : ℝ) : EReal) * (((r : ℝ) : EReal) - ((h : ℝ) : EReal)) = _
  rw [← EReal.coe_one, ← EReal.coe_sub, ← EReal.coe_sub, ← EReal.coe_mul, ← EReal.coe_mul, ← EReal.coe_mul, ← EReal.coe_add, ← EReal.coe_add]
  exact congrArg _ (by ring)

end Cert.Proof.Whole

end
-- ==== Proof.Whole.Agree.lean ====
module

public import proofs.«01_k».proof.Proof.Whole.Equation
public import proofs.«01_k».proof.Proof.Whole.States

/-!
# The kernel's result is the reference's

The index found by the first call is a row of the keys, for every input; it is the reference's, the gates are the
reference's, and the mixture is the reference's, where states and keys are finite.
-/

@[expose] public section

namespace Cert.Proof.Whole

open Cert.KernelIdeal Cert.KernelIdeal.Gen
open Idealize Idealize.ShloMosaic Idealize.ShloMosaic.TcCoe
open Cert.Proof.Whole.Reference (meanR gateR mixR takenR nearestR)

set_option maxRecDepth 16384

noncomputable section

variable (m : (ℓ : Loc nD τ sig) → Buf (Elt Ideal) ℓ) (d : Dev nD)

/-- The arguments, as arrays. -/
abbrev states : S8x512x768.Idx → EReal := m (d, Proc.devRef .tc main_arg0)
abbrev keys : S65536x768.Idx → EReal := m (d, Proc.devRef .tc main_arg1)
abbrev weight₁ : S768x192.Idx → EReal := m (d, Proc.devRef .tc main_arg2)
abbrev bias₁ : S192.Idx → EReal := m (d, Proc.devRef .tc main_arg3)
abbrev weight₂ : S192x1.Idx → EReal := m (d, Proc.devRef .tc main_arg4)
abbrev bias₂ : S1.Idx → EReal := m (d, Proc.devRef .tc main_arg5)

theorem statesOf_V1 : statesOf (V1 (F := Ideal) m d) = states m d := V1_arg0 m d
theorem keysIn_V1 : keysIn (V1 (F := Ideal) m d) = keys m d := V1_arg1 m d

/-- Every index the first call leaves is a row of the keys. -/
theorem in_range (d : Dev nD) (b : Fin 8) : (word (idxOf (F := Ideal) m d) b).toNat < 65536 := by
  have e : idxOf (F := Ideal) m d = idxRow (V1 (F := Ideal) m d) := V2_idx m d
  rw [e]
  exact (search (V1 (F := Ideal) m d) b).1

/-- It is the first key of least score. -/
theorem index_first (b : Fin 8) : IsFirst (score (states m d) (keys m d) b) ⟨(word (idxOf (F := Ideal) m d) b).toNat, in_range m d b⟩ := by
  have e : idxOf (F := Ideal) m d = idxRow (V1 (F := Ideal) m d) := V2_idx m d
  obtain ⟨h, hs⟩ := search (V1 (F := Ideal) m d) b
  rw [statesOf_V1, keysIn_V1] at hs
  convert hs using 2
  rw [e]

/-- The gates are the reference's. -/
theorem gate_eq (i : Fin 8) (l : Fin 128) : gate (V1 (F := Ideal) m d) (ix2 i l)
    = gateR (F := Ideal) (states m d) (weight₁ m d) (bias₁ m d) (weight₂ m d) (bias₂ m d) (ix2 i 0) := by
  have e0 : ∀ u : Fin 192, (V1 (F := Ideal) m d (Proc.devRef .tc main_v0) : S1x192.Idx → EReal) (ix2 0 u) = bias₁ m d (ix1 u) := fun u => by
    rw [V1_v0]; pointwise
  have e1 : ∀ u : Fin 192, (V1 (F := Ideal) m d (Proc.devRef .tc main_v1) : S1x192.Idx → EReal) (ix2 0 u) = weight₂ m d (ix2 u 0) := fun u => by
    rw [V1_v1]; pointwise
  have e2 : (V1 (F := Ideal) m d (Proc.devRef .tc main_v2) : S1x1.Idx → EReal) (ix2 0 0) = bias₂ m d (ix1 0) := by
    rw [V1_v2]; pointwise
  have e3 : (V1 (F := Ideal) m d (Proc.devRef .tc main_arg2) : S768x192.Idx → EReal) = weight₁ m d := V1_arg2 m d
  rw [gate_apply, Reference.gateR_apply, e2]
  refine congrArg (fun z => Ideal.logistic (z + _)) (Finset.sum_congr rfl fun u _ => ?_)
  rw [e0, e1, e3, statesOf_V1]
  refine congrArg (fun z => max (z + _) 0 * _) (Finset.sum_congr rfl fun x _ => ?_)
  rw [mean_eq]

/-- A gate is a real. -/
theorem gate_real (i : Fin 8) (l : Fin 128) : ∃ w : ℝ, gate (V1 (F := Ideal) m d) (ix2 i l) = ((w : ℝ) : EReal) := by
  rw [gate_apply]
  exact logistic_real _

/-- Where states and keys are finite, the kernel's result is the reference's function of the arguments. -/
theorem result_agrees (h' : S8x512x768.Idx → ℝ) (k' : S65536x768.Idx → ℝ)
    (eh : ∀ y, states m d y = ((h' y : ℝ) : EReal)) (ek : ∀ y, keys m d y = ((k' y : ℝ) : EReal)) :
    (V4 (F := Ideal) m (in_range m) d (Proc.devRef .tc main_v5) : S8x8x512x768.Idx → EReal)
      = mixR (F := Ideal) (states m d) (gateR (F := Ideal) (states m d) (weight₁ m d) (bias₁ m d) (weight₂ m d) (bias₂ m d))
          (takenR (F := Ideal) (keys m d) (nearestR (F := Ideal) (states m d) (keys m d))) := by
  rw [V4_result]
  funext y
  obtain ⟨a, b, s, x, rfl⟩ : ∃ (a b : Fin 8) (s : Fin 512) (x : Fin 768), y = ix4 a b s x := ⟨y 0, y 1, y 2, y 3, by funext c; fin_cases c <;> rfl⟩
  obtain ⟨g, hg, hf⟩ := Reference.nearestR_first (states m d) (keys m d) b
  have hi := (IsFirst.of_lt_iff (score_lt_iff (states m d) (keys m d) h' k' eh ek b) (index_first m d b)).unique hf
  have hrow : out (idxOf (F := Ideal) m) (keysOf (F := Ideal) m) (in_range m) d (ix2 b x) = keys m d (ix2 g x) := by
    rw [← hi]
    show keysOf (F := Ideal) m d _ = _
    rw [keysOf_eq]
    rfl
  have hk : takenR (F := Ideal) (keys m d) (nearestR (F := Ideal) (states m d) (keys m d)) (ix2 b x) = keys m d (ix2 g x) :=
    Reference.takenR_apply _ _ b x g hg
  obtain ⟨w, hw⟩ := gate_real m d a 0
  have hl : blendAll (F := Ideal) (gate (V1 (F := Ideal) m d)) (states m d) (out (idxOf (F := Ideal) m) (keysOf (F := Ideal) m) (in_range m) d) (ix4 a b s x)
      = blendAt (F := Ideal) (gate (V1 (F := Ideal) m d) (ix2 a 0)) (states m d (ix3 b s x)) (out (idxOf (F := Ideal) m) (keysOf (F := Ideal) m) (in_range m) d (ix2 b x)) := rfl
  refine hl.trans ?_
  rw [Reference.mixR_apply, hk, hrow, ← gate_eq m d a 0, hw, eh, ek]
  exact blend_real w _ _

end

end Cert.Proof.Whole

end
-- ==== Proof.Whole.Claims.lean ====
module

public import proofs.«01_k».proof.Defs
public import proofs.«01_k».proof.Proof.Whole.Run
public import proofs.«01_k».proof.Proof.Whole.Agree
public import proofs.«01_k».proof.Proof.Gen.ReferenceIdeal
public import proofs.«01_k».proof.Proof.Gen.Pre_finite_states_and_keys
public import Idealize.ShloMosaic.Lib.Claim
public import Idealize.ShloMosaic.Lib.Pointwise
public import Idealize.ShloMosaic.Lib.ReduceAll
public import Idealize.ShloMosaic.Lib.StableHlo.Predicate

/-!
# What the claims on the whole kernel ask

The frame of the kernel over the extended reals, the frame of its reference, and the equality of their results
where the states and the keys are finite.
-/

@[expose] public section

noncomputable section

namespace Cert.Proof.Whole

open Idealize.ShloMosaic Idealize.ShloMosaic.TcCoe
open Idealize.SL.Sem

/-- An extended real whose absolute value is less than infinity is a real. -/
theorem real_of_abs_lt (x : EReal) (h : FloatOps.cmpf (F := Ideal) (φ := .f32) .olt (FloatOps.hostAbsf (F := Ideal) (φ := .f32) x) (Ideal.ofBits .f32 0x7F800000#32) = 1#1) :
    ∃ r : ℝ, x = ((r : ℝ) : EReal) := by
  have h' : max x (-x) < (⊤ : EReal) := by
    rw [ofBits_inf_f32] at h
    exact of_decide_eq_true ((StableHlo.Predicate.ofBool_eq_one_iff _).mp h)
  induction x with
  | bot => simp at h'
  | coe r => exact ⟨r, rfl⟩
  | top => simp at h'

/-- Where `finite_states_and_keys` is all ones, every state and every element of the keys is a real. -/
theorem finite_of_pre (h : FVec Ideal Cert.Pre_finite_states_and_keys.S8x512x768 .f32) (k : FVec Ideal Cert.Pre_finite_states_and_keys.S65536x768 .f32)
    (a2 : FVec Ideal Cert.Pre_finite_states_and_keys.S768x192 .f32) (a3 : FVec Ideal Cert.Pre_finite_states_and_keys.S192 .f32)
    (a4 : FVec Ideal Cert.Pre_finite_states_and_keys.S192x1 .f32) (a5 : FVec Ideal Cert.Pre_finite_states_and_keys.S1 .f32)
    (e : Cert.Pre_finite_states_and_keys.fn (F := Ideal) h k a2 a3 a4 a5 = fun _ => 1#1) :
    (∀ y, ∃ r : ℝ, h y = ((r : ℝ) : EReal)) ∧ ∀ y, ∃ r : ℝ, k y = ((r : ℝ) : EReal) := by
  have : Subsingleton Cert.Pre_finite_states_and_keys.S_.Idx := ⟨fun a b => funext fun x => x.elim0⟩
  have hb := IntOp.andi_eq_one.mp (congrFun e (fun x => x.elim0))
  exact ⟨fun y => real_of_abs_lt _ (Host.reduce_andi_all _ _ _ _ _ hb.1 y), fun y => real_of_abs_lt _ (Host.reduce_andi_all _ _ _ _ _ hb.2 y)⟩

/-- The kernel leaves its arguments as they were, and its result is the last of the states of `V4`. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_v5) = V4 (F := Ideal) m (in_range m) c (Proc.devRef .tc Cert.KernelIdeal.main_v5)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) := by
  have : ∀ e, Nonempty (Elt Ideal e) := fun e => by cases e <;> exact ⟨(0 : _)⟩
  exact θ_run_mono (run_main (F := Ideal) m g (in_range m)) fun r h => ⟨fun c =>
    ⟨h.1 c (Proc.devRef .tc Cert.KernelIdeal.main_v5) (by decide),
      (h.1 c (Proc.devRef .tc Cert.KernelIdeal.main_arg0) (by decide)).trans (V4_arg0 m c _),
      (h.1 c (Proc.devRef .tc Cert.KernelIdeal.main_arg1) (by decide)).trans (V4_arg1 m c _),
      (h.1 c (Proc.devRef .tc Cert.KernelIdeal.main_arg2) (by decide)).trans (V4_arg2 m c _),
      (h.1 c (Proc.devRef .tc Cert.KernelIdeal.main_arg3) (by decide)).trans (V4_arg3 m c _),
      (h.1 c (Proc.devRef .tc Cert.KernelIdeal.main_arg4) (by decide)).trans (V4_arg4 m c _),
      (h.1 c (Proc.devRef .tc Cert.KernelIdeal.main_arg5) (by decide)).trans (V4_arg5 m c _)⟩, h.2⟩

/-- `quiescent_KernelIdeal` (Defs.lean): the kernel, over the extended reals, runs from every memory. -/
theorem frame_KernelIdeal : Cert.quiescent_KernelIdeal := fun m g _ =>
  θ_run_mono (run_kernel m g) fun _ h => ⟨fun c => (h.1 c).2, h.2⟩

/-- The same under `finite_states_and_keys`. -/
theorem frame_KernelIdeal_pre : Cert.quiescent_KernelIdeal_pre_finite_states_and_keys := fun m g _ => frame_KernelIdeal m g trivial

/-- The reference has no semaphore. -/
theorem no_semaphore : SemLoc Cert.ReferenceIdeal.sig → False := by decide

/-- `quiescent_ReferenceIdeal` (Defs.lean): the reference is host operations alone, and has no semaphore. -/
theorem frame_ReferenceIdeal : Cert.quiescent_ReferenceIdeal := fun m g _ =>
  θ_run_mono (Cert.ReferenceIdeal.Value.run (F := Ideal) m g) fun _ h => ⟨fun c => (h c).2, funext fun s => (no_semaphore s.2).elim⟩

/-- The same under `finite_states_and_keys`. -/
theorem frame_ReferenceIdeal_pre : Cert.quiescent_ReferenceIdeal_pre_finite_states_and_keys := fun m g _ => frame_ReferenceIdeal m g trivial

/-- `algebraic_KernelIdeal_ReferenceIdeal_pre_finite_states_and_keys` (Defs.lean). -/
theorem algebraic_whole : Cert.algebraic_KernelIdeal_ReferenceIdeal_pre_finite_states_and_keys := by
  intro m g m' g' hpre hag
  refine ⟨fun c => V4 (F := Ideal) m (in_range m) c (Proc.devRef .tc Cert.KernelIdeal.main_v5), θ_run_mono (run_kernel m g) fun _ h => h.1, ?_⟩
  refine θ_run_mono (Cert.ReferenceIdeal.Value.run (F := Ideal) m' g') fun _ h c => ⟨(h c).1.trans ?_, (h c).2⟩
  obtain ⟨eh, ek⟩ := finite_of_pre _ _ _ _ _ _ (hpre c)
  choose h' eh using eh
  choose k' ek using ek
  refine Eq.trans ?_ (result_agrees m c h' k' eh ek).symm
  obtain ⟨e0, e1, e2, e3, e4, e5⟩ := hag c
  refine (Reference.result_eq (F := Ideal) m' c).trans ?_
  rw [e0, e1, e2, e3, e4, e5]

end Cert.Proof.Whole

end
-- ==== Proof.lean ====
module

public import proofs.«01_k».proof.Defs
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite_states_and_keys
public import proofs.«01_k».proof.Proof.Gen.Fuse
public import proofs.«01_k».proof.Proof.Gen.Fuse.Frame
public import proofs.«01_k».proof.Proof.Gen.Rows
public import proofs.«01_k».proof.Proof.Gen.Rows.Skeleton
public import proofs.«01_k».proof.Proof.Gen.RowsReference
public import proofs.«01_k».proof.Proof.Gen.RowsReference.Run
public import proofs.«01_k».proof.Proof.Gen.Pre_rows_in_range
public import proofs.«01_k».proof.Proof.Rows.Claims
public import proofs.«01_k».proof.Proof.Whole.Claims

@[expose] public section

noncomputable section

namespace Cert.Proof

open Idealize.ShloMosaic Idealize.SL.Sem

/-- Every claim of Defs.lean. -/
theorem claim : Cert.Claim :=
  ⟨Cert.KernelIdeal.Gen.facts, Cert.ReferenceIdeal.Gen.facts, Cert.Fuse.Gen.facts, Cert.Rows.Gen.facts,
    Cert.RowsReference.Gen.facts, Cert.Pre_finite_states_and_keys.Gen.facts, Cert.Pre_rows_in_range.Gen.facts,
    Whole.frame_KernelIdeal, Whole.frame_KernelIdeal_pre, Whole.frame_ReferenceIdeal, Whole.frame_ReferenceIdeal_pre,
    fun m ρ _ => Cert.Fuse.Gen.frame m ρ, RowsRun.frame_Rows, RowsRun.frame_RowsReference,
    RowsRun.frame_RowsReference_pre, Whole.algebraic_whole, RowsRun.bitexact_Rows⟩

end Cert.Proof

end
